-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_summable [hPre_summable : Cert.Pre_summable.Facts] (m : (ℓ : Loc Cert.KernelIdeal.nD Cert.KernelIdeal.τ Cert.KernelIdeal.sig) → Buf (Elt Ideal) ℓ) : Prop :=
  ∀ c : Dev Cert.KernelIdeal.nD,
    (Cert.Pre_summable.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_summable [hPre_summable : Cert.Pre_summable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_summable.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_summable [hKernelIdeal : Cert.KernelIdeal.Facts] [hPre_summable : Cert.Pre_summable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_summable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_summable [hReferenceIdeal : Cert.ReferenceIdeal.Facts] [hPre_summable : Cert.Pre_summable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_summable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_summable [hKernelIdeal : Cert.KernelIdeal.Facts] [hReferenceIdeal : Cert.ReferenceIdeal.Facts] [hPre_summable : Cert.Pre_summable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_summable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_summable : Cert.Pre_summable.Facts),
    quiescent_Kernel (hKernel := hKernel)
    ∧ quiescent_KernelIdeal (hKernelIdeal := hKernelIdeal)
    ∧ quiescent_KernelIdeal_pre_summable (hKernelIdeal := hKernelIdeal) (hPre_summable := hPre_summable)
    ∧ quiescent_ReferenceIdeal (hReferenceIdeal := hReferenceIdeal)
    ∧ quiescent_ReferenceIdeal_pre_summable (hReferenceIdeal := hReferenceIdeal) (hPre_summable := hPre_summable)
    ∧ preserves_Kernel_KernelIdeal
    ∧ algebraic_KernelIdeal_ReferenceIdeal_pre_summable (hKernelIdeal := hKernelIdeal) (hReferenceIdeal := hReferenceIdeal) (hPre_summable := hPre_summable)
-- ==== Pre_summable.lean ====
abbrev S8192x8192 : Shape := ⟨2, ![8192, 8192]⟩
abbrev S_ : Shape := ⟨0, ![]⟩
abbrev S8192 : Shape := ⟨1, ![8192]⟩

class Facts : Prop where
  reducesTo_S8192x8192_S8192_d1 : S8192x8192.ReducesTo [1] S8192
  h_S_ : 0 < S_.numel
  reducesTo_S8192x8192_S8192_d0 : S8192x8192.ReducesTo [0] S8192
  bcast_S_S8192 : S_.BroadcastsInDim S8192 (![] : Fin 0 → Fin S8192.rank)

variable [Facts]

def fn {F : FTy → Type} [FloatOps F] (main_arg0 : FVec F S8192x8192 .f32) : IVec S8192 1 :=
  let main_v0 : FVec F S8192x8192 .f32 := Host.absf main_arg0
  let main_cst : FVec F S_ .f32 := constant S_ .f32 0x00000000#32
  let main_v1 : FVec F S8192 .f32 := (fun x v => Host.reduceAdd x v reducesTo_S8192x8192_S8192_d1 h_S_) main_v0 main_cst
  let main_cst_0 : FVec F S_ .f32 := constant S_ .f32 0x00000000#32
  let main_v2 : FVec F S8192 .f32 := (fun x v => Host.reduceAdd x v reducesTo_S8192x8192_S8192_d0 h_S_) main_v0 main_cst_0
  let main_cst_1 : FVec F S_ .f32 := constant S_ .f32 0x00000000#32
  let main_v3 : FVec F S8192 .f32 := broadcastInDim S8192 ![] bcast_S_S8192 main_cst_1
  let main_v4 : IVec S8192 1 := cmpf .ogt main_v1 main_v3
  let main_cst_2 : FVec F S_ .f32 := constant S_ .f32 0x7F800000#32
  let main_v5 : FVec F S8192 .f32 := broadcastInDim S8192 ![] bcast_S_S8192 main_cst_2
  let main_v6 : IVec S8192 1 := cmpf .olt main_v1 main_v5
  let main_v7 : IVec S8192 1 := andi main_v4 main_v6
  let main_cst_3 : FVec F S_ .f32 := constant S_ .f32 0x00000000#32
  let main_v8 : FVec F S8192 .f32 := broadcastInDim S8192 ![] bcast_S_S8192 main_cst_3
  let main_v9 : IVec S8192 1 := cmpf .ogt main_v2 main_v8
  let main_v10 : IVec S8192 1 := andi main_v7 main_v9
  let main_cst_4 : FVec F S_ .f32 := constant S_ .f32 0x7F800000#32
  let main_v11 : FVec F S8192 .f32 := broadcastInDim S8192 ![] bcast_S_S8192 main_cst_4
  let main_v12 : IVec S8192 1 := cmpf .olt main_v2 main_v11
  let main_v13 : IVec S8192 1 := andi main_v10 main_v12
  main_v13
-- ==== Kernel.lean ====
abbrev S8192x8192 : Shape := ⟨2, ![8192, 8192]⟩
abbrev S8192x1 : Shape := ⟨2, ![8192, 1]⟩
abbrev S1x8192 : Shape := ⟨2, ![1, 8192]⟩
abbrev S256x8192 : Shape := ⟨2, ![256, 8192]⟩
abbrev S256x1 : Shape := ⟨2, ![256, 1]⟩
abbrev S256 : Shape := ⟨1, ![256]⟩
abbrev S8192 : Shape := ⟨1, ![8192]⟩
abbrev S_ : Shape := ⟨0, ![]⟩

abbrev nBuf : Space → Nat
  | .hbm => 20
  | .vmem => 22
  | .smem => 0
  | _ => 0

abbrev bufTy : (tb : Table) → Fin (tcTables nBuf tb) → BufTy
  | .hbm, ⟨0, _⟩ => ⟨S8192x8192, .f32⟩
  | .hbm, ⟨1, _⟩ => ⟨S8192x8192, .bf16⟩
  | .hbm, ⟨2, _⟩ => ⟨S8192x1, .f32⟩
  | .hbm, ⟨3, _⟩ => ⟨S1x8192, .f32⟩
  | .hbm, ⟨4, _⟩ => ⟨S_, .i32⟩
  | .hbm, ⟨5, _⟩ => ⟨S_, .i32⟩
  | .hbm, ⟨6, _⟩ => ⟨S8192x8192, .bf16⟩
  | .hbm, ⟨7, _⟩ => ⟨S_, .i32⟩
  | .hbm, ⟨8, _⟩ => ⟨S_, .i32⟩
  | .hbm, ⟨9, _⟩ => ⟨S8192x1, .f32⟩
  | .hbm, ⟨10, _⟩ => ⟨S1x8192, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S8192x1, .f32⟩
  | .hbm, ⟨16, _⟩ => ⟨S1x8192, .f32⟩
  | .hbm, ⟨17, _⟩ => ⟨S_, .i32⟩
  | .hbm, ⟨18, _⟩ => ⟨S_, .i32⟩
  | .hbm, ⟨19, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .bf16⟩
  | .local _ .vmem, ⟨3, _⟩ => ⟨S256x8192, .bf16⟩
  | .local _ .vmem, ⟨4, _⟩ => ⟨S256x1, .f32⟩
  | .local _ .vmem, ⟨5, _⟩ => ⟨S256x1, .f32⟩
  | .local _ .vmem, ⟨6, _⟩ => ⟨S1x8192, .f32⟩
  | .local _ .vmem, ⟨7, _⟩ => ⟨S256x8192, .bf16⟩
  | .local _ .vmem, ⟨8, _⟩ => ⟨S256x8192, .bf16⟩
  | .local _ .vmem, ⟨9, _⟩ => ⟨S1x8192, .f32⟩
  | .local _ .vmem, ⟨10, _⟩ => ⟨S256x1, .f32⟩
  | .local _ .vmem, ⟨11, _⟩ => ⟨S256x1, .f32⟩
  | .local _ .vmem, ⟨12, _⟩ => ⟨S1x8192, .f32⟩
  | .local _ .vmem, ⟨13, _⟩ => ⟨S1x8192, .f32⟩
  | .local _ .vmem, ⟨14, _⟩ => ⟨S256x8192, .bf16⟩
  | .local _ .vmem, ⟨15, _⟩ => ⟨S256x8192, .bf16⟩
  | .local _ .vmem, ⟨16, _⟩ => ⟨S256x1, .f32⟩
  | .local _ .vmem, ⟨17, _⟩ => ⟨S256x1, .f32⟩
  | .local _ .vmem, ⟨18, _⟩ => ⟨S1x8192, .f32⟩
  | .local _ .vmem, ⟨19, _⟩ => ⟨S256x8192, .f32⟩
  | .local _ .vmem, ⟨20, _⟩ => ⟨S256x8192, .f32⟩
  | .local _ .vmem, ⟨21, _⟩ => ⟨S1x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_c : Ref sig .tc := ⟨.hbm, 4, rfl⟩
abbrev main_c_0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_while0c_c_5 : Ref sig .tc := ⟨.hbm, 11, rfl⟩
abbrev main_while0c_v3 : Ref sig .tc := ⟨.hbm, 12, rfl⟩
abbrev main_while0b_c_5 : Ref sig .tc := ⟨.hbm, 13, rfl⟩
abbrev main_while0b_v3 : Ref sig .tc := ⟨.hbm, 14, rfl⟩
abbrev main_while0b_v4_0 : Ref sig .tc := ⟨.hbm, 15, rfl⟩
abbrev main_while0b_v4_1 : Ref sig .tc := ⟨.hbm, 16, rfl⟩
abbrev main_while0b_c_6 : Ref sig .tc := ⟨.hbm, 17, rfl⟩
abbrev main_while0b_v5 : Ref sig .tc := ⟨.hbm, 18, rfl⟩
abbrev main_v2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev main_while0_count : Scf.Loop 32 := ⟨0#32, 9#32, 1#32⟩

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S_, .i32⟩
  | .hbm, ⟨3, _⟩ => ⟨S_, .i32⟩
  | .hbm, ⟨4, _⟩ => ⟨S8192x8192, .f32⟩
  | .hbm, ⟨5, _⟩ => ⟨S_, .i32⟩
  | .hbm, ⟨6, _⟩ => ⟨S_, .i1⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S_, .i32⟩
  | .hbm, ⟨18, _⟩ => ⟨S_, .i32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1_0 : Ref sig .tc := ⟨.hbm, 3, rfl⟩
abbrev main_v1_1 : Ref sig .tc := ⟨.hbm, 4, rfl⟩
abbrev main_while0c_c_1 : Ref sig .tc := ⟨.hbm, 5, rfl⟩
abbrev main_while0c_v2 : Ref sig .tc := ⟨.hbm, 6, rfl⟩
abbrev main_while0b_cst : Ref sig .tc := ⟨.hbm, 7, rfl⟩
abbrev main_while0b_v2 : Ref sig .tc := ⟨.hbm, 8, rfl⟩
abbrev main_while0b_v3 : Ref sig .tc := ⟨.hbm, 9, rfl⟩
abbrev main_while0b_v4 : Ref sig .tc := ⟨.hbm, 10, rfl⟩
abbrev main_while0b_v5 : Ref sig .tc := ⟨.hbm, 11, rfl⟩
abbrev main_while0b_cst_1 : Ref sig .tc := ⟨.hbm, 12, rfl⟩
abbrev main_while0b_v6 : Ref sig .tc := ⟨.hbm, 13, rfl⟩
abbrev main_while0b_v7 : Ref sig .tc := ⟨.hbm, 14, rfl⟩
abbrev main_while0b_v8 : Ref sig .tc := ⟨.hbm, 15, rfl⟩
abbrev main_while0b_v9 : Ref sig .tc := ⟨.hbm, 16, rfl⟩
abbrev main_while0b_c_2 : Ref sig .tc := ⟨.hbm, 17, rfl⟩
abbrev main_while0b_v10 : Ref sig .tc := ⟨.hbm, 18, rfl⟩

abbrev nD : Nat := 1
abbrev τ : Topo := Topo.v7x

variable {F : FTy → Type} [FloatOps F]

abbrev main_while0_count : Scf.Loop 32 := ⟨0#32, 10#32, 1#32⟩
-- ==== Proof.Base.lean ====
/-
  What the modules on the kernel's three bodies share: the resource algebra of the whole program, the branch condition
  "this is the first block of rows", and two facts on buffers that are loaded and stored whole.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArrays
public import Idealize.ShloMosaic.Lib.Pipeline.RegionsLoop
public import Idealize.ShloMosaic.Lib.Ring
public import Idealize.ShloMosaic.Lib.VecWindow
public import Idealize.ShloMosaic.Lib.WholeRead
public import Idealize.ShloMosaic.Lib.Tactic
public import Idealize.ShloMosaic.Lib.WordCmp

@[expose] public section

noncomputable section

namespace Cert.Ipf

open Cert.KernelIdeal Cert.KernelIdeal.Gen

open Idealize.ShloMosaic Idealize.ShloMosaic.TcCoe
open Idealize.SL Idealize.SL.RA Idealize.SL.BI
open Idealize.ShloMosaic.Rounds

/-- The resource algebra of the whole program: one copy of the launch library's algebra per region entry. There are
    eleven entries: the first region, the last region, and the region in the loop once per trip. -/
abbrev UU : Type := IProdConst (Fin 11) (UR sig nD τ) × Counters

/-- The test each body makes on its grid coordinate: "this is the first point". -/
abbrev first (n : ℕ) : Prop :=
  (Scalar.cmpi .ne (Scalar.extui (Scalar.cmpi .eq (BitVec.ofNat 32 n) 0#32)) 0#32) = 1#1

/-- On a grid of 32 points the test holds exactly at coordinate 0. -/
theorem first_iff {n : ℕ} (hn : n < 32) : first n ↔ n = 0 :=
  (show ∀ k : Fin 32, first k.val ↔ k.val = 0 by decide) ⟨n, hn⟩

section Whole

variable {F : FTy → Type} [FloatOps F] {sp : Space} {s : Shape} {e : EltTy}

/-- Loading the whole of a buffer that reads `X` gives `X`. -/
theorem load_unread {M : Memref sig .tc sp s e} (h : M.IsWhole) (X : s.Idx → Elt F e) {off : Fin s.rank → ℕ}
    (inb : ∀ a, off a + s.size a ≤ s.size a) :
    M.view.readAt (Elt F) (Rect.unit off s.size inb).toLoadRect (h.unread (Val := Elt F) X) = X :=
  (View.readAt_full _ _ inb).trans (h.read_unread X)

end Whole

end Cert.Ipf

end
-- ==== Proof.CastBody.lean ====
/-
  The first kernel body, `_cast1_body`, run on one block of 256 rows `x`. It leaves the absolute values of the block in
  the narrow format, the block's row factors `1 / rowsum |x|`, and the column sums increased by those of `|x|` scaled by
  the row factors. On the first block the column sums start from zero.
-/
module

public import proofs.«01_k».proof.Proof.Base

@[expose] public section

set_option maxRecDepth 16384

noncomputable section

namespace Cert.Ipf

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (c : Dev nD) (i : grid0.Coords)
  (arg1 : Memref sig .tc .vmem S256x8192 .f32) (harg1 : arg1.IsWhole) (arg2 : Memref sig .tc .vmem S256x8192 .bf16) (harg2 : arg2.IsWhole)
  (arg3 : Memref sig .tc .vmem S256x1 .f32) (harg3 : arg3.IsWhole) (arg4 : Memref sig .tc .vmem S1x8192 .f32) (harg4 : arg4.IsWhole)
  (x : Vec F S256x8192 .f32)

set_option maxHeartbeats 1000000 in
/-- On the first block: the column sums are the block's own. -/
theorem cast_first (hi : first (i 0).val) (E : Set ℕ) (K : PUnit → sProp 𝕄) :
    iprop(owns (c : Thread nD τ) arg1 fullShare x ∗ (∃ d, owns (c : Thread nD τ) arg2 fullShare d) ∗ (∃ d, owns (c : Thread nD τ) arg3 fullShare d)
        ∗ (∃ d, owns (c : Thread nD τ) arg4 fullShare d)
        ∗ (iprop(owns (c : Thread nD τ) arg1 fullShare x ∗ owns (c : Thread nD τ) arg2 fullShare (k0_pay3 x)
            ∗ owns (c : Thread nD τ) arg3 fullShare (k0_pay4 x) ∗ owns (c : Thread nD τ) arg4 fullShare (k0_pay5 x k0_pay1)) -∗ K ⟨⟩))
      ⊢ wp frame (wpE (defs₀ (F := F)) Variants.none c none) E (cc0__cast1_body i arg1 harg1 arg2 harg2 arg3 harg3 arg4 harg4) K := by
  simp only [cc0__cast1_body_eq_skeleton]; unfold cc0__cast1_body_skel
  unfold owns
  iintro ⟨⟨%f0, %hf0, H0⟩, ⟨%d1, %f1, -, H1⟩, ⟨%d2, %f2, -, H2⟩, ⟨%d3, %f3, -, H3⟩, Hk⟩
  obtain rfl := harg1.eq_unread hf0
  sl_exec (disch := first | sl_exact hi)
  sl_step
  iapply Hk
  isplitl [H0]
  · iexists _; isplitr; · ipureintro; exact harg1.read_unread _
    iexact H0
  isplitl [H1]
  · iexists _; isplitr
    swap; · iexact H1
    ipureintro
    rw [View.read_writes_full, load_unread]
  isplitl [H2]
  · iexists _; isplitr
    swap; · iexact H2
    ipureintro
    rw [View.read_writes_full, load_unread]
  iexists _; isplitr
  swap; · iexact H3
  ipureintro
  unfold cast_first.sl.v12 cast_first.sl.H3_1
  rw [View.read_writes_full, View.readCov_full, load_unread]

set_option maxHeartbeats 1000000 in
/-- On a later block: the column sums go on from `s`. -/
theorem cast_later (hi : ¬ first (i 0).val) (s : Vec F S1x8192 .f32) (E : Set ℕ) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s
        ∗ (iprop(owns (c : Thread nD τ) arg1 fullShare x ∗ owns (c : Thread nD τ) arg2 fullShare (k0_pay3 x)
            ∗ owns (c : Thread nD τ) arg3 fullShare (k0_pay4 x) ∗ owns (c : Thread nD τ) arg4 fullShare (k0_pay5 x s)) -∗ K ⟨⟩))
      ⊢ wp frame (wpE (defs₀ (F := F)) Variants.none c none) E (cc0__cast1_body i arg1 harg1 arg2 harg2 arg3 harg3 arg4 harg4) K := by
  simp only [cc0__cast1_body_eq_skeleton]; unfold cc0__cast1_body_skel
  unfold owns
  iintro ⟨⟨%f0, %hf0, H0⟩, ⟨%d1, %f1, -, H1⟩, ⟨%d2, %f2, -, H2⟩, ⟨%f3, %hf3, H3⟩, Hk⟩
  obtain rfl := harg1.eq_unread hf0; obtain rfl := harg4.eq_unread hf3
  sl_exec (disch := first | sl_exact hi)
  sl_step
  iapply Hk
  isplitl [H0]
  · iexists _; isplitr; · ipureintro; exact harg1.read_unread _
    iexact H0
  isplitl [H1]
  · iexists _; isplitr
    swap; · iexact H1
    ipureintro
    rw [View.read_writes_full, load_unread]
  isplitl [H2]
  · iexists _; isplitr
    swap; · iexact H2
    ipureintro
    rw [View.read_writes_full, load_unread]
  iexists _; isplitr
  swap; · iexact H3
  ipureintro
  rw [View.read_writes_full, load_unread, load_unread]

end

end Cert.Ipf

end
-- ==== Proof.Blocks.lean ====
/-
  How the 8192 rows are cut into 32 blocks of 256: the block of an array at a point of the grid, the array put together
  from its blocks, and what each window of the three kernels reads or covers of its array.
-/
module

public import proofs.«01_k».proof.Proof.Base
public import Idealize.ShloMosaic.Lib.Pipeline.ValueKit
public import Idealize.ShloMosaic.Lib.Pointwise.Index

@[expose] public section

set_option maxRecDepth 16384

noncomputable section

namespace Cert.Ipf

open Cert.KernelIdeal Cert.KernelIdeal.Gen

open Idealize.ShloMosaic Idealize.ShloMosaic.TcCoe

section Cut

variable {α : Type}

/-- Rows `256 n … 256 n + 255` of an array of 8192 rows and 8192 columns. -/
def rows (A : S8192x8192.Idx → α) (n : ℕ) : S256x8192.Idx → α :=
  fun y => A (ix2 (Fin.ofNat 8192 (256 * n + (y 0).val)) (y 1))

/-- Rows `256 n … 256 n + 255` of a column of 8192 entries. -/
def rowsCol (A : S8192x1.Idx → α) (n : ℕ) : S256x1.Idx → α :=
  fun y => A (ix2 (Fin.ofNat 8192 (256 * n + (y 0).val)) (y 1))

/-- The array whose block `n` is `f n`. -/
def ofRows (f : ℕ → S256x8192.Idx → α) : S8192x8192.Idx → α :=
  fun i => f ((i 0).val / 256) (ix2 (Fin.ofNat 256 (i 0).val) (i 1))

/-- The column whose block `n` is `f n`. -/
def ofRowsCol (f : ℕ → S256x1.Idx → α) : S8192x1.Idx → α :=
  fun i => f ((i 0).val / 256) (ix2 (Fin.ofNat 256 (i 0).val) (i 1))

/-- Reading an array at the places of block `n` gives its block `n`. -/
theorem comp_rows (A : S8192x8192.Idx → α) {n : ℕ} (hn : n < 32) {g : S256x8192.Idx → S8192x8192.Idx} {k : Fin 2 → ℕ}
    (h0 : ∀ y, (g y 0).val = k 0 * 256 + 1 * (y 0).val) (h1 : ∀ y, (g y 1).val = k 1 * 8192 + 1 * (y 1).val) (hk : k = ![n, 0]) :
    (fun y => A (g y)) = rows A n := by
  subst hk
  refine funext fun y => congrArg A (funext fun a => Fin.ext ?_)
  have hy : (y 0).val < 256 := (y 0).isLt
  match a with
  | ⟨0, _⟩ => exact (h0 y).trans (by show n * 256 + 1 * (y 0).val = (256 * n + (y 0).val) % 8192; omega)
  | ⟨1, _⟩ => exact (h1 y).trans (by show 0 * 8192 + 1 * (y 1).val = (y 1).val; omega)

/-- The same for a column. -/
theorem comp_rowsCol (A : S8192x1.Idx → α) {n : ℕ} (hn : n < 32) {g : S256x1.Idx → S8192x1.Idx} {k : Fin 2 → ℕ}
    (h0 : ∀ y, (g y 0).val = k 0 * 256 + 1 * (y 0).val) (h1 : ∀ y, (g y 1).val = k 1 * 1 + 1 * (y 1).val) (hk : k = ![n, 0]) :
    (fun y => A (g y)) = rowsCol A n := by
  subst hk
  refine funext fun y => congrArg A (funext fun a => Fin.ext ?_)
  have hy : (y 0).val < 256 := (y 0).isLt
  match a with
  | ⟨0, _⟩ => exact (h0 y).trans (by show n * 256 + 1 * (y 0).val = (256 * n + (y 0).val) % 8192; omega)
  | ⟨1, _⟩ => exact (h1 y).trans (by show 0 * 1 + 1 * (y 1).val = (y 1).val; omega)

/-- Block `n` of the array put together from the blocks `f` is `f n`. -/
theorem rows_ofRows (f : ℕ → S256x8192.Idx → α) {n : ℕ} (hn : n < 32) : rows (ofRows f) n = f n := by
  funext y
  have hy : (y 0).val < 256 := (y 0).isLt
  have e : (256 * n + (y 0).val) % 8192 = 256 * n + (y 0).val := Nat.mod_eq_of_lt (by omega)
  show f ((256 * n + (y 0).val) % 8192 / 256) _ = f n y
  rw [show (256 * n + (y 0).val) % 8192 / 256 = n by omega]
  refine congrArg (f n) (funext fun a => Fin.ext ?_)
  match a with
  | ⟨0, _⟩ => show (256 * n + (y 0).val) % 8192 % 256 = (y 0).val; omega
  | ⟨1, _⟩ => rfl

/-- The same for a column. -/
theorem rowsCol_ofRowsCol (f : ℕ → S256x1.Idx → α) {n : ℕ} (hn : n < 32) : rowsCol (ofRowsCol f) n = f n := by
  funext y
  have hy : (y 0).val < 256 := (y 0).isLt
  have e : (256 * n + (y 0).val) % 8192 = 256 * n + (y 0).val := Nat.mod_eq_of_lt (by omega)
  show f ((256 * n + (y 0).val) % 8192 / 256) _ = f n y
  rw [show (256 * n + (y 0).val) % 8192 / 256 = n by omega]
  refine congrArg (f n) (funext fun a => Fin.ext ?_)
  match a with
  | ⟨0, _⟩ => show (256 * n + (y 0).val) % 8192 % 256 = (y 0).val; omega
  | ⟨1, _⟩ => rfl

/-- Reading a row of 8192 entries through a block that is the whole of it gives the row. -/
theorem comp_whole (A : S1x8192.Idx → α) {g : S1x8192.Idx → S1x8192.Idx} {k : Fin 2 → ℕ}
    (h0 : ∀ y, (g y 0).val = k 0 * 1 + 1 * (y 0).val) (h1 : ∀ y, (g y 1).val = k 1 * 8192 + 1 * (y 1).val) (hk : k = ![0, 0]) :
    (fun y => A (g y)) = A := by
  subst hk
  refine funext fun y => congrArg A (funext fun a => Fin.ext ?_)
  match a with
  | ⟨0, _⟩ => exact (h0 y).trans (by show 0 * 1 + 1 * (y 0).val = (y 0).val; omega)
  | ⟨1, _⟩ => exact (h1 y).trans (by show 0 * 8192 + 1 * (y 1).val = (y 1).val; omega)

end Cut

/-! ## The points of the grid -/

/-- Each grid has 32 points. -/
theorem lt_points (t : Fin grid0.N) : t.val < 32 := lt_of_lt_of_eq t.isLt N_0

/-- The coordinate of point `t` is `t`. -/
theorem coord_eq (t : Fin grid0.N) : (grid0.coords t 0).val = t.val := by
  have h : (grid0.coords t 0).val = t.val / 1 % 32 := Pipeline.Grid.coords_val t 0 (by decide) rfl
  have := lt_points t
  omega

/-- The windows that move with the grid are at block `(t, 0)` at point `t`. -/
theorem moving (t : Fin grid0.N) : cc0_transform_0 (grid0.coords t) = ![t.val, 0] :=
  (by decide +kernel : ∀ t : Fin grid0.N, cc0_transform_0 (grid0.coords t) = ![t.val, 0]) t

/-- The other windows stay at block `(0, 0)`. -/
theorem staying (t : Fin grid0.N) : cc0_transform_3 (grid0.coords t) = ![0, 0] := rfl

/-- The last point. -/
def lastPoint : Fin grid0.N := ⟨31, lt_of_lt_of_eq (by decide) N_0.symm⟩

end Cert.Ipf

end
-- ==== Proof.CastData.lean ====
/-
  The first kernel over its 32 blocks of rows, entered with the input `W`: the absolute values of each block, the row
  factors `1 / rowsum`, and the column sums of the absolute values scaled by the row factors, added up block after block.
-/
module

public import proofs.«01_k».proof.Proof.CastBody
public import proofs.«01_k».proof.Proof.Blocks

@[expose] public section

set_option maxRecDepth 16384

noncomputable section

namespace Cert.Ipf

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The values -/

/-- The column sums after block `n`: those of blocks `0 … n`, each scaled by its row factors. -/
def castSums (W : Vec F S8192x8192 .f32) : ℕ → Vec F S1x8192 .f32
  | 0 => k0_pay5 (rows W 0) k0_pay1
  | n + 1 => k0_pay5 (rows W (n + 1)) (castSums W n)

/-- The absolute values of the whole matrix. -/
def castA (W : Vec F S8192x8192 .f32) : Vec F S8192x8192 .bf16 := ofRows fun n => k0_pay3 (rows W n)

/-- The row factors of the whole matrix. -/
def castU (W : Vec F S8192x8192 .f32) : Vec F S8192x1 .f32 := ofRowsCol fun n => k0_pay4 (rows W n)

/-- The column sums of the whole matrix, scaled by the row factors. -/
def castW (W : Vec F S8192x8192 .f32) : Vec F S1x8192 .f32 := castSums W 31

/-! ## What the window reads -/

variable (V : (c : Dev nD) → (b : Ref sig .tc) → Buf (Elt F) ((c : Thread nD τ).loc b))

/-- The input the kernel is entered with. -/
abbrev castIn (c : Dev nD) : Vec F S8192x8192 .f32 := V c main_arg0

theorem read0_0 (c : Dev nD) (t : Fin cfg0.N) :
    ((cfg0.win 0).blk t).view.read (Elt F) (V c main_arg0) = rows (castIn V c) t.val :=
  comp_rows (castIn V c) (lt_points t) (g := fun y => ((cfg0.win 0).blk t).view.emb y) (fun _ => rfl) (fun _ => rfl) (moving t)

/-! ## The proof data -/

/-- The proof data of the kernel's one entry. It has no scratch: the buffers it does not stage stay at anything. -/
def castDat (c : Dev nD) : Dat τ (Elt F) Unit ℕ UU ℕ cfg0 c where
  A w := V c (Pipeline.arrRef spec0 w)
  after w t := match w with
    | ⟨0, _⟩ => rows (castIn V c) t.val
    | ⟨1, _⟩ => k0_pay3 (rows (castIn V c) t.val)
    | ⟨2, _⟩ => k0_pay4 (rows (castIn V c) t.val)
    | ⟨3, _⟩ => castSums (castIn V c) t.val
  Φ _ := Pipeline.scopedRest (Ix := Unit) (Name := ℕ) (U := UU) (Lvl := ℕ) (Val := Elt F) spec0 c
  q _ := fullShare
  owed _ := 0

theorem cast_before0 (c : Dev nD) (t : Fin cfg0.N) (d) : (castDat V c).before 0 t d = rows (castIn V c) t.val :=
  ((castDat V c).before_in_eq_fetched 0 rfl (fun _ => rfl) (fun _ _ _ => rfl) (fun t => (read0_0 V c t).symm) t d).trans (read0_0 V c t)

/-- After the first block the column sums' buffer holds what the block before left. -/
theorem cast_before3 (c : Dev nD) (t : Fin cfg0.N) (ht : t.val ≠ 0) (d) :
    (castDat V c).before 3 t d = castSums (castIn V c) (t.val - 1) := by
  have hN := lt_points t
  rw [Dat.before_out_kept _ 3 rfl t (by omega) (Bool.eq_false_iff.mpr fun h => by have := (flush0_3 _).mp h; dsimp only at this; omega)
    (fun _ => rfl) (fun _ _ => rfl)]
  dsimp only [castDat]

/-! ## The body at a point -/

set_option maxHeartbeats 1000000 in
/-- The body's obligation at every block. -/
theorem cast_obligation (c : Dev nD) : BodyObligation (castDat V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  simp only [cast_before0]
  rw [show (castDat V c).owesAt () t.succ = (castDat V c).owesAt () t.castSucc from rfl,
    show (castDat V c).Φ t.succ = (castDat V c).Φ t.castSucc from rfl]
  have hN := lt_points t
  have hc : (grid0.coords t 0).val = t.val := coord_eq t
  by_cases hz : t.val = 0
  · have hi : first (grid0.coords t 0).val := (first_iff (by omega)).mpr (by omega)
    dsimp only [castDat]
    rw [hz]
    unfold castSums bodyAt0
    iintro ⟨HR, Ho, ⟨%d0, H0⟩, ⟨%d1, H1⟩, ⟨%d2, H2⟩, ⟨%d3, H3⟩⟩
    iapply (cast_first c (grid0.coords t) _ _ _ _ _ _ _ _ (rows (castIn V c) 0) hi Set.univ _)
    isplitl [H0]; · iexact H0
    isplitl [H1]; · iexists _; iexact H1
    isplitl [H2]; · iexists _; iexact H2
    isplitl [H3]; · iexists _; iexact H3
    iintro ⟨H0, H1, H2, H3⟩
    isplitl [HR]; · iexact HR
    isplitl [Ho]; · iexact Ho
    isplitl [H0]; · iexact H0
    isplitl [H1]; · iexact H1
    isplitl [H2] <;> iassumption
  · have hi : ¬ first (grid0.coords t 0).val := fun h => hz (hc ▸ (first_iff (by omega)).mp h)
    simp only [cast_before3 V c t hz]
    dsimp only [castDat]
    obtain ⟨n, hn⟩ := Nat.exists_eq_succ_of_ne_zero hz
    rw [hn]
    rw [show n.succ - 1 = n from rfl]
    unfold bodyAt0
    rw [show castSums (castIn V c) n.succ = k0_pay5 (rows (castIn V c) n.succ) (castSums (castIn V c) n) from rfl]
    iintro ⟨HR, Ho, ⟨%d0, H0⟩, ⟨%d1, H1⟩, ⟨%d2, H2⟩, ⟨%d3, H3⟩⟩
    iapply (cast_later c (grid0.coords t) _ _ _ _ _ _ _ _ (rows (castIn V c) n.succ) hi (castSums (castIn V c) n) Set.univ _)
    isplitl [H0]; · iexact H0
    isplitl [H1]; · iexists _; iexact H1
    isplitl [H2]; · iexists _; iexact H2
    isplitl [H3]; · iexact H3
    iintro ⟨H0, H1, H2, H3⟩
    isplitl [HR]; · iexact HR
    isplitl [Ho]; · iexact Ho
    isplitl [H0]; · iexact H0
    isplitl [H1]; · iexact H1
    isplitl [H2] <;> iassumption

/-! ## What the kernel leaves -/

/-- The absolute values' array after the last block. -/
theorem cast_final1 (c : Dev nD) : (castDat V c).arrAt 1 cfg0.N = castA (castIn V c) := by
  refine (castDat V c).arrAt_eq_of_covers 1 _ (by decide +kernel) fun t _ y => ?_
  have h := congrFun (comp_rows (castA (castIn V c)) (lt_points t) (g := fun y => ((cfg0.win 1).blk t).view.emb y)
    (fun _ => rfl) (fun _ => rfl) (moving t)) y
  exact (congrFun (rows_ofRows (fun n => k0_pay3 (rows (castIn V c) n)) (lt_points t)) y).symm.trans h.symm

/-- The row factors' array after the last block. -/
theorem cast_final2 (c : Dev nD) : (castDat V c).arrAt 2 cfg0.N = castU (castIn V c) := by
  refine (castDat V c).arrAt_eq_of_covers 2 _ (by decide +kernel) fun t _ y => ?_
  have h := congrFun (comp_rowsCol (castU (castIn V c)) (lt_points t) (g := fun y => ((cfg0.win 2).blk t).view.emb y)
    (fun _ => rfl) (fun _ => rfl) (moving t)) y
  exact (congrFun (rowsCol_ofRowsCol (fun n => k0_pay4 (rows (castIn V c) n)) (lt_points t)) y).symm.trans h.symm

/-- The column sums after the last block. -/
theorem cast_final3 (c : Dev nD) : (castDat V c).arrAt 3 cfg0.N = castW (castIn V c) :=
  (castDat V c).arrAt_eq_of_after_last 3 lastPoint (by decide +kernel) _ fun _ => rfl

end Cert.Ipf

end
-- ==== Proof.IterBody.lean ====
/-
  The second kernel body, `_iter_body`, run on one block of 256 rows. With `a` the block, `v` the column factors (kept
  in scratch) and `s` the column sums so far, it leaves the block's row factors `1 / rowsum (a * v)` and the column sums
  increased by those of `a` scaled by the new row factors. On the first block it also sets the scratch to the reciprocal
  of the incoming column sums and starts from zero sums.
-/
module

public import proofs.«01_k».proof.Proof.Base

@[expose] public section

set_option maxRecDepth 16384

noncomputable section

namespace Cert.Ipf

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (c : Dev nD) (i : grid1.Coords)
  (arg1 : Memref sig .tc .vmem S256x8192 .bf16) (harg1 : arg1.IsWhole) (arg2 : Memref sig .tc .vmem S1x8192 .f32) (harg2 : arg2.IsWhole)
  (arg3 : Memref sig .tc .vmem S256x1 .f32) (harg3 : arg3.IsWhole) (arg4 : Memref sig .tc .vmem S1x8192 .f32) (harg4 : arg4.IsWhole)
  (arg5 : Memref sig .tc .vmem S1x8192 .f32) (harg5 : arg5.IsWhole)
  (x : Vec F S256x8192 .bf16) (w : Vec F S1x8192 .f32)

set_option maxHeartbeats 1000000 in
/-- On the first block: the scratch becomes `v = 1 / w` for the incoming column sums `w`, the row factors are those of
    the block at `v`, and the column sums are the block's own. -/
theorem iter_first (hi : first (i 0).val) (E : Set ℕ) (K : PUnit → sProp 𝕄) :
    iprop(owns (c : Thread nD τ) arg1 fullShare x ∗ owns (c : Thread nD τ) arg2 fullShare w ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare w
            ∗ owns (c : Thread nD τ) arg3 fullShare (k1_pay4 x (k1_pay1 w)) ∗ owns (c : Thread nD τ) arg4 fullShare (k1_pay5 x (k1_pay1 w) k1_pay2)
            ∗ owns (c : Thread nD τ) arg5 fullShare (k1_pay1 w)) -∗ K ⟨⟩))
      ⊢ wp frame (wpE (defs₀ (F := F)) Variants.none c none) E (cc1__iter_body i arg1 harg1 arg2 harg2 arg3 harg3 arg4 harg4 arg5 harg5) K := by
  simp only [cc1__iter_body_eq_skeleton]; unfold cc1__iter_body_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0; obtain rfl := harg2.eq_unread hf1
  sl_exec (disch := first | sl_exact hi)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    unfold iter_first.sl.v6 iter_first.sl.H4_1
    rw [View.read_writes_full, View.readCov_full, load_unread, load_unread]
  isplitl [H3]
  · iexists _; isplitr
    swap; · iexact H3
    ipureintro
    unfold iter_first.sl.v6 iter_first.sl.v14 iter_first.sl.H4_1 iter_first.sl.H3_1
    rw [View.read_writes_full, View.readCov_full, View.readCov_full, load_unread, load_unread]
  iexists _; isplitr
  swap; · iexact H4
  ipureintro
  unfold iter_first.sl.H4_1
  rw [View.read_writes_full, load_unread]

set_option maxHeartbeats 1000000 in
/-- On a later block: the scratch holds `v` and keeps it, the row factors are those of the block at `v`, and the column
    sums go on from `s`. -/
theorem iter_later (hi : ¬ first (i 0).val) (s v : Vec F S1x8192 .f32) (E : Set ℕ) (K : PUnit → sProp 𝕄) :
    iprop(owns (c : Thread nD τ) arg1 fullShare x ∗ owns (c : Thread nD τ) arg2 fullShare w ∗ (∃ d, owns (c : Thread nD τ) arg3 fullShare d)
        ∗ owns (c : Thread nD τ) arg4 fullShare s ∗ owns (c : Thread nD τ) arg5 fullShare v
        ∗ (iprop(owns (c : Thread nD τ) arg1 fullShare x ∗ owns (c : Thread nD τ) arg2 fullShare w
            ∗ owns (c : Thread nD τ) arg3 fullShare (k1_pay4 x v) ∗ owns (c : Thread nD τ) arg4 fullShare (k1_pay5 x v s)
            ∗ owns (c : Thread nD τ) arg5 fullShare v) -∗ K ⟨⟩))
      ⊢ wp frame (wpE (defs₀ (F := F)) Variants.none c none) E (cc1__iter_body i arg1 harg1 arg2 harg2 arg3 harg3 arg4 harg4 arg5 harg5) K := by
  simp only [cc1__iter_body_eq_skeleton]; unfold cc1__iter_body_skel
  unfold owns
  iintro ⟨⟨%f0, %hf0, H0⟩, ⟨%f1, %hf1, H1⟩, ⟨%d2, %f2, -, H2⟩, ⟨%f3, %hf3, H3⟩, ⟨%f4, %hf4, H4⟩, Hk⟩
  obtain rfl := harg1.eq_unread hf0; obtain rfl := harg2.eq_unread hf1; obtain rfl := harg4.eq_unread hf3; obtain rfl := harg5.eq_unread hf4
  sl_exec (disch := first | sl_exact hi)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_full, load_unread, load_unread]
  isplitl [H3]
  · iexists _; isplitr
    swap; · iexact H3
    ipureintro
    rw [View.read_writes_full, load_unread, load_unread, load_unread]
  iexists _; isplitr; · ipureintro; exact harg5.read_unread _
  iexact H4

end

end Cert.Ipf

end
-- ==== Proof.Scratch.lean ====
/-
  A kernel's scratch buffer taken out of the buffers that no window stages, and put back.
-/
module

public import proofs.«01_k».proof.Proof.Base

@[expose] public section

noncomputable section

namespace Cert.Ipf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The buffers a launch does not stage, but for buffer `b`: each held at some contents. -/
def restBut {gr W : ℕ} (win : Fin W → Pipeline.WinSpec sig gr) (b : Ref sig .tc) (c : Dev nD) : sProp 𝕄 :=
  bigSep (((Finset.univ.filter fun b : Ref sig .tc => b.isScoped) \ Finset.univ.image (Pipeline.stageRef win)).erase b)
    fun b => iprop(∃ f : Buf (Elt F) ((c : Thread nD τ).loc b), ((c : Thread nD τ).loc b) ↦{fullShare} f)

/-- The buffers a launch does not stage are buffer `b`, held at some contents, and the rest. -/
theorem scopedRest_take {gr W : ℕ} (win : Fin W → Pipeline.WinSpec sig gr) (b : Ref sig .tc)
    (hb : b ∈ (Finset.univ.filter fun b : Ref sig .tc => b.isScoped) \ Finset.univ.image (Pipeline.stageRef win)) (c : Dev nD) :
    (Pipeline.scopedRest (Ix := Unit) (Name := ℕ) (U := UU) (Lvl := ℕ) (Val := Elt F) win c : sProp 𝕄)
      = iprop((∃ d, owns (c : Thread nD τ) (Memref.whole b) fullShare d) ∗ restBut win b c) := by
  unfold Pipeline.scopedRest restBut
  rw [show (bigSep _ _ : sProp 𝕄) = iprop(_ ∗ bigSep _ _) from BI.bigSep_erase hb]
  simp only [owns_whole]

end Cert.Ipf

end
-- ==== Proof.IterData.lean ====
/-
  The second kernel over its 32 blocks of rows, entered with the matrix `A` and the column sums `w`: the row factors of
  each block at the column factors `1 / w`, and the column sums of `A` scaled by the new row factors, added up block after
  block. The scratch holds the column factors from the first block on.
-/
module

public import proofs.«01_k».proof.Proof.IterBody
public import proofs.«01_k».proof.Proof.Blocks
public import proofs.«01_k».proof.Proof.Scratch

@[expose] public section

set_option maxRecDepth 16384

noncomputable section

namespace Cert.Ipf

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The values -/

/-- The column sums after block `n`: those of blocks `0 … n`, each scaled by its row factors. -/
def iterSums (A : Vec F S8192x8192 .bf16) (v : Vec F S1x8192 .f32) : ℕ → Vec F S1x8192 .f32
  | 0 => k1_pay5 (rows A 0) v k1_pay2
  | n + 1 => k1_pay5 (rows A (n + 1)) v (iterSums A v n)

/-- The row factors of the whole matrix. -/
def iterU (A : Vec F S8192x8192 .bf16) (w : Vec F S1x8192 .f32) : Vec F S8192x1 .f32 :=
  ofRowsCol fun n => k1_pay4 (rows A n) (k1_pay1 w)

/-- The column sums of the whole matrix, scaled by the row factors. -/
def iterW (A : Vec F S8192x8192 .bf16) (w : Vec F S1x8192 .f32) : Vec F S1x8192 .f32 :=
  iterSums A (k1_pay1 w) 31

/-! ## What the windows read -/

variable (V : (c : Dev nD) → (b : Ref sig .tc) → Buf (Elt F) ((c : Thread nD τ).loc b))

/-- The matrix and the column sums the kernel is entered with. -/
abbrev iterA (c : Dev nD) : Vec F S8192x8192 .bf16 := V c main_v1_0
abbrev iterIn (c : Dev nD) : Vec F S1x8192 .f32 := V c main_v1_4

theorem read1_0 (c : Dev nD) (t : Fin cfg1.N) :
    ((cfg1.win 0).blk t).view.read (Elt F) (V c main_v1_0) = rows (iterA V c) t.val :=
  comp_rows (iterA V c) (lt_points t) (g := fun y => ((cfg1.win 0).blk t).view.emb y) (fun _ => rfl) (fun _ => rfl) (moving t)

theorem read1_1 (c : Dev nD) (t : Fin cfg1.N) :
    ((cfg1.win 1).blk t).view.read (Elt F) (V c main_v1_4) = iterIn V c :=
  comp_whole (iterIn V c) (g := fun y => ((cfg1.win 1).blk t).view.emb y) (fun _ => rfl) (fun _ => rfl) (staying t)

/-! ## The proof data -/

/-- Between blocks: before the first the scratch holds anything, afterwards the column factors. -/
def iterPhi (c : Dev nD) : ℕ → sProp 𝕄
  | 0 => Pipeline.scopedRest (Ix := Unit) (Name := ℕ) (U := UU) (Lvl := ℕ) (Val := Elt F) spec1 c
  | _ + 1 => iprop(owns (c : Thread nD τ) (Memref.whole cc1_scratch0) fullShare (k1_pay1 (iterIn V c)) ∗ restBut spec1 cc1_scratch0 c)

/-- The proof data of one entry of the kernel. -/
def iterDat (c : Dev nD) : Dat τ (Elt F) Unit ℕ UU ℕ cfg1 c where
  A w := V c (Pipeline.arrRef spec1 w)
  after w t := match w with
    | ⟨0, _⟩ => rows (iterA V c) t.val
    | ⟨1, _⟩ => iterIn V c
    | ⟨2, _⟩ => k1_pay4 (rows (iterA V c) t.val) (k1_pay1 (iterIn V c))
    | ⟨3, _⟩ => iterSums (iterA V c) (k1_pay1 (iterIn V c)) t.val
  Φ t := iterPhi V c t.val
  q _ := fullShare
  owed _ := 0

theorem iter_before0 (c : Dev nD) (t : Fin cfg1.N) (d) : (iterDat V c).before 0 t d = rows (iterA V c) t.val :=
  ((iterDat V c).before_in_eq_fetched 0 rfl (fun _ => rfl) (fun _ _ _ => rfl) (fun t => (read1_0 V c t).symm) t d).trans (read1_0 V c t)

theorem iter_before1 (c : Dev nD) (t : Fin cfg1.N) (d) : (iterDat V c).before 1 t d = iterIn V c :=
  ((iterDat V c).before_in_eq_fetched 1 rfl (fun _ => rfl) (fun _ _ _ => rfl) (fun t => (read1_1 V c t).symm) t d).trans (read1_1 V c t)

/-- After the first block the column sums' buffer holds what the block before left. -/
theorem iter_before3 (c : Dev nD) (t : Fin cfg1.N) (ht : t.val ≠ 0) (d) :
    (iterDat V c).before 3 t d = iterSums (iterA V c) (k1_pay1 (iterIn V c)) (t.val - 1) := by
  have hN := lt_points t
  rw [Dat.before_out_kept _ 3 rfl t (by omega) (Bool.eq_false_iff.mpr fun h => by have := (flush1_3 _).mp h; dsimp only at this; omega)
    (fun _ => rfl) (fun _ _ => rfl)]
  dsimp only [iterDat]

/-! ## The body at a point -/

set_option maxHeartbeats 1000000 in
/-- The body's obligation at every block. -/
theorem iter_obligation (c : Dev nD) : BodyObligation (iterDat V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  simp only [iter_before0, iter_before1]
  rw [show (iterDat V c).owesAt () t.succ = (iterDat V c).owesAt () t.castSucc from rfl,
    show (iterDat V c).Φ t.castSucc = iterPhi V c t.val from rfl, show (iterDat V c).Φ t.succ = iterPhi V c (t.val + 1) from rfl]
  have hN := lt_points t
  have hc : (grid1.coords t 0).val = t.val := coord_eq t
  by_cases hz : t.val = 0
  · have hi : first (grid1.coords t 0).val := (first_iff (by omega)).mpr (by omega)
    rw [hz]
    unfold iterPhi
    rw [scopedRest_take spec1 cc1_scratch0 (by decide) c]
    dsimp only [iterDat]
    rw [hz]
    unfold iterSums bodyAt1
    iintro ⟨⟨HS, HR⟩, Ho, ⟨%d0, H0⟩, ⟨%d1, H1⟩, ⟨%d2, H2⟩, ⟨%d3, H3⟩⟩
    iapply (iter_first c (grid1.coords t) _ _ _ _ _ _ _ _ _ _ (rows (iterA V c) 0) (iterIn V c) hi Set.univ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [HS HR]
    · isplitl [HS] <;> iassumption
    isplitl [Ho]; · iexact Ho
    isplitl [H0]; · iexact H0
    isplitl [H1]; · iexact H1
    isplitl [H2] <;> iassumption
  · have hi : ¬ first (grid1.coords t 0).val := fun h => hz (hc ▸ (first_iff (by omega)).mp h)
    simp only [iter_before3 V c t hz]
    dsimp only [iterDat]
    obtain ⟨n, hn⟩ := Nat.exists_eq_succ_of_ne_zero hz
    rw [hn]
    rw [show n.succ - 1 = n from rfl]
    unfold iterPhi bodyAt1
    rw [show iterSums (iterA V c) (k1_pay1 (iterIn V c)) n.succ
      = k1_pay5 (rows (iterA V c) n.succ) (k1_pay1 (iterIn V c)) (iterSums (iterA V c) (k1_pay1 (iterIn V c)) n) from rfl]
    iintro ⟨⟨HS, HR⟩, Ho, ⟨%d0, H0⟩, ⟨%d1, H1⟩, ⟨%d2, H2⟩, ⟨%d3, H3⟩⟩
    iapply (iter_later c (grid1.coords t) _ _ _ _ _ _ _ _ _ _ (rows (iterA V c) n.succ) (iterIn V c) hi
      (iterSums (iterA V c) (k1_pay1 (iterIn V c)) n) (k1_pay1 (iterIn V c)) Set.univ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [HS HR]
    · isplitl [HS] <;> iassumption
    isplitl [Ho]; · iexact Ho
    isplitl [H0]; · iexact H0
    isplitl [H1]; · iexact H1
    isplitl [H2] <;> iassumption

/-! ## What the kernel leaves -/

/-- The row factors' array after the last block. -/
theorem iter_final2 (c : Dev nD) : (iterDat V c).arrAt 2 cfg1.N = iterU (iterA V c) (iterIn V c) := by
  refine (iterDat V c).arrAt_eq_of_covers 2 _ (by decide +kernel) fun t _ y => ?_
  have h := congrFun (comp_rowsCol (iterU (iterA V c) (iterIn V c)) (lt_points t) (g := fun y => ((cfg1.win 2).blk t).view.emb y)
    (fun _ => rfl) (fun _ => rfl) (moving t)) y
  exact (congrFun (rowsCol_ofRowsCol (fun n => k1_pay4 (rows (iterA V c) n) (k1_pay1 (iterIn V c))) (lt_points t)) y).symm.trans h.symm

/-- The column sums after the last block. -/
theorem iter_final3 (c : Dev nD) : (iterDat V c).arrAt 3 cfg1.N = iterW (iterA V c) (iterIn V c) :=
  (iterDat V c).arrAt_eq_of_after_last 3 lastPoint (by decide +kernel) _ fun _ => rfl

end Cert.Ipf

end
-- ==== Proof.FinalBody.lean ====
/-
  The third kernel body, `_final_body`, run on one block of 256 rows: the block times its row factors times the column
  factors `v`, which the body keeps in scratch. On the first block it sets the scratch to the reciprocal of the incoming
  column sums.
-/
module

public import proofs.«01_k».proof.Proof.Base

@[expose] public section

set_option maxRecDepth 16384

noncomputable section

namespace Cert.Ipf

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (c : Dev nD) (i : grid2.Coords)
  (arg1 : Memref sig .tc .vmem S256x8192 .bf16) (harg1 : arg1.IsWhole) (arg2 : Memref sig .tc .vmem S256x1 .f32) (harg2 : arg2.IsWhole)
  (arg3 : Memref sig .tc .vmem S1x8192 .f32) (harg3 : arg3.IsWhole) (arg4 : Memref sig .tc .vmem S256x8192 .f32) (harg4 : arg4.IsWhole)
  (arg5 : Memref sig .tc .vmem S1x8192 .f32) (harg5 : arg5.IsWhole)
  (x : Vec F S256x8192 .bf16) (u : Vec F S256x1 .f32) (w : Vec F S1x8192 .f32)

set_option maxHeartbeats 1000000 in
/-- On the first block: the scratch becomes `v = 1 / w` for the incoming column sums `w`, and the result is the block
    scaled by its row factors `u` and by `v`. -/
theorem final_first (hi : first (i 0).val) (E : Set ℕ) (K : PUnit → sProp 𝕄) :
    iprop(owns (c : Thread nD τ) arg1 fullShare x ∗ owns (c : Thread nD τ) arg2 fullShare u ∗ owns (c : Thread nD τ) arg3 fullShare w
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare u ∗ owns (c : Thread nD τ) arg3 fullShare w
            ∗ owns (c : Thread nD τ) arg4 fullShare (k2_pay2 x u (k2_pay1 w)) ∗ owns (c : Thread nD τ) arg5 fullShare (k2_pay1 w)) -∗ K ⟨⟩))
      ⊢ wp frame (wpE (defs₀ (F := F)) Variants.none c none) E (cc2__final_body i arg1 harg1 arg2 harg2 arg3 harg3 arg4 harg4 arg5 harg5) K := by
  simp only [cc2__final_body_eq_skeleton]; unfold cc2__final_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | sl_exact hi)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    unfold final_first.sl.v10 final_first.sl.H4_1
    rw [View.read_writes_full, View.readCov_full, load_unread, load_unread, load_unread]
  iexists _; isplitr
  swap; · iexact H4
  ipureintro
  unfold final_first.sl.H4_1
  rw [View.read_writes_full, load_unread]

set_option maxHeartbeats 1000000 in
/-- On a later block: the scratch holds `v` and keeps it. -/
theorem final_later (hi : ¬ first (i 0).val) (v : Vec F S1x8192 .f32) (E : Set ℕ) (K : PUnit → sProp 𝕄) :
    iprop(owns (c : Thread nD τ) arg1 fullShare x ∗ owns (c : Thread nD τ) arg2 fullShare u ∗ owns (c : Thread nD τ) arg3 fullShare w
        ∗ (∃ d, owns (c : Thread nD τ) arg4 fullShare d) ∗ owns (c : Thread nD τ) arg5 fullShare v
        ∗ (iprop(owns (c : Thread nD τ) arg1 fullShare x ∗ owns (c : Thread nD τ) arg2 fullShare u ∗ owns (c : Thread nD τ) arg3 fullShare w
            ∗ owns (c : Thread nD τ) arg4 fullShare (k2_pay2 x u v) ∗ owns (c : Thread nD τ) arg5 fullShare v) -∗ K ⟨⟩))
      ⊢ wp frame (wpE (defs₀ (F := F)) Variants.none c none) E (cc2__final_body i arg1 harg1 arg2 harg2 arg3 harg3 arg4 harg4 arg5 harg5) K := by
  simp only [cc2__final_body_eq_skeleton]; unfold cc2__final_body_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg1.eq_unread hf0; obtain rfl := harg2.eq_unread hf1; obtain rfl := harg3.eq_unread hf2; obtain rfl := harg5.eq_unread hf4
  sl_exec (disch := first | sl_exact hi)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_full, load_unread, load_unread, load_unread]
  iexists _; isplitr; · ipureintro; exact harg5.read_unread _
  iexact H4

end

end Cert.Ipf

end
-- ==== Proof.FinalData.lean ====
/-
  The last kernel over its 32 blocks of rows, entered with the matrix `A`, the row factors `u` and the column sums `w`:
  each block of the result is `A` times its row factors times the column factors `1 / w`. The scratch holds the column
  factors from the first block on.
-/
module

public import proofs.«01_k».proof.Proof.FinalBody
public import proofs.«01_k».proof.Proof.Blocks
public import proofs.«01_k».proof.Proof.Scratch

@[expose] public section

set_option maxRecDepth 16384

noncomputable section

namespace Cert.Ipf

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The values -/

/-- The result. -/
def finalOut (A : Vec F S8192x8192 .bf16) (u : Vec F S8192x1 .f32) (w : Vec F S1x8192 .f32) : Vec F S8192x8192 .f32 :=
  ofRows fun n => k2_pay2 (rows A n) (rowsCol u n) (k2_pay1 w)

/-! ## What the windows read -/

variable (V : (c : Dev nD) → (b : Ref sig .tc) → Buf (Elt F) ((c : Thread nD τ).loc b))

/-- The matrix, the row factors and the column sums the kernel is entered with. -/
abbrev finalA (c : Dev nD) : Vec F S8192x8192 .bf16 := V c main_v0_0
abbrev finalU (c : Dev nD) : Vec F S8192x1 .f32 := V c main_v1_3
abbrev finalW (c : Dev nD) : Vec F S1x8192 .f32 := V c main_v1_4

theorem read2_0 (c : Dev nD) (t : Fin cfg2.N) :
    ((cfg2.win 0).blk t).view.read (Elt F) (V c main_v0_0) = rows (finalA V c) t.val :=
  comp_rows (finalA V c) (lt_points t) (g := fun y => ((cfg2.win 0).blk t).view.emb y) (fun _ => rfl) (fun _ => rfl) (moving t)

theorem read2_1 (c : Dev nD) (t : Fin cfg2.N) :
    ((cfg2.win 1).blk t).view.read (Elt F) (V c main_v1_3) = rowsCol (finalU V c) t.val :=
  comp_rowsCol (finalU V c) (lt_points t) (g := fun y => ((cfg2.win 1).blk t).view.emb y) (fun _ => rfl) (fun _ => rfl) (moving t)

theorem read2_2 (c : Dev nD) (t : Fin cfg2.N) :
    ((cfg2.win 2).blk t).view.read (Elt F) (V c main_v1_4) = finalW V c :=
  comp_whole (finalW V c) (g := fun y => ((cfg2.win 2).blk t).view.emb y) (fun _ => rfl) (fun _ => rfl) (staying t)

/-! ## The proof data -/

/-- Between blocks: before the first the scratch holds anything, afterwards the column factors. -/
def finalPhi (c : Dev nD) : ℕ → sProp 𝕄
  | 0 => Pipeline.scopedRest (Ix := Unit) (Name := ℕ) (U := UU) (Lvl := ℕ) (Val := Elt F) spec2 c
  | _ + 1 => iprop(owns (c : Thread nD τ) (Memref.whole cc2_scratch0) fullShare (k2_pay1 (finalW V c)) ∗ restBut spec2 cc2_scratch0 c)

/-- The proof data of the kernel's one entry. -/
def finalDat (c : Dev nD) : Dat τ (Elt F) Unit ℕ UU ℕ cfg2 c where
  A w := V c (Pipeline.arrRef spec2 w)
  after w t := match w with
    | ⟨0, _⟩ => rows (finalA V c) t.val
    | ⟨1, _⟩ => rowsCol (finalU V c) t.val
    | ⟨2, _⟩ => finalW V c
    | ⟨3, _⟩ => k2_pay2 (rows (finalA V c) t.val) (rowsCol (finalU V c) t.val) (k2_pay1 (finalW V c))
  Φ t := finalPhi V c t.val
  q _ := fullShare
  owed _ := 0

theorem final_before0 (c : Dev nD) (t : Fin cfg2.N) (d) : (finalDat V c).before 0 t d = rows (finalA V c) t.val :=
  ((finalDat V c).before_in_eq_fetched 0 rfl (fun _ => rfl) (fun _ _ _ => rfl) (fun t => (read2_0 V c t).symm) t d).trans (read2_0 V c t)

theorem final_before1 (c : Dev nD) (t : Fin cfg2.N) (d) : (finalDat V c).before 1 t d = rowsCol (finalU V c) t.val :=
  ((finalDat V c).before_in_eq_fetched 1 rfl (fun _ => rfl) (fun _ _ _ => rfl) (fun t => (read2_1 V c t).symm) t d).trans (read2_1 V c t)

theorem final_before2 (c : Dev nD) (t : Fin cfg2.N) (d) : (finalDat V c).before 2 t d = finalW V c :=
  ((finalDat V c).before_in_eq_fetched 2 rfl (fun _ => rfl) (fun _ _ _ => rfl) (fun t => (read2_2 V c t).symm) t d).trans (read2_2 V c t)

/-! ## The body at a point -/

set_option maxHeartbeats 1000000 in
/-- The body's obligation at every block. -/
theorem final_obligation (c : Dev nD) : BodyObligation (finalDat V c) (defs₀ (F := F)) Variants.none () Set.univ := fun t => by
  rw [bigSep_W2, bigSep_W2, show defs₀ (F := F) .tc cfg2.body (cfg2.bodyArgs t (cfg2.slots t)) = bodyAt2 t by unfold defs₀; rw [Defs.onTc_tc]]
  simp only [final_before0, final_before1, final_before2]
  rw [show (finalDat V c).owesAt () t.succ = (finalDat V c).owesAt () t.castSucc from rfl,
    show (finalDat V c).Φ t.castSucc = finalPhi V c t.val from rfl, show (finalDat V c).Φ t.succ = finalPhi V c (t.val + 1) from rfl]
  have hN := lt_points t
  have hc : (grid2.coords t 0).val = t.val := coord_eq t
  dsimp only [finalDat]
  by_cases hz : t.val = 0
  · have hi : first (grid2.coords t 0).val := (first_iff (by omega)).mpr (by omega)
    rw [hz]
    unfold finalPhi bodyAt2
    rw [scopedRest_take spec2 cc2_scratch0 (by decide) c]
    iintro ⟨⟨HS, HR⟩, Ho, ⟨%d0, H0⟩, ⟨%d1, H1⟩, ⟨%d2, H2⟩, ⟨%d3, H3⟩⟩
    iapply (final_first c (grid2.coords t) _ _ _ _ _ _ _ _ _ _ (rows (finalA V c) 0) (rowsCol (finalU V c) 0) (finalW V c) hi Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR]
    · isplitl [HS] <;> iassumption
    isplitl [Ho]; · iexact Ho
    isplitl [H0]; · iexact H0
    isplitl [H1]; · iexact H1
    isplitl [H2] <;> iassumption
  · have hi : ¬ first (grid2.coords t 0).val := fun h => hz (hc ▸ (first_iff (by omega)).mp h)
    obtain ⟨n, hn⟩ := Nat.exists_eq_succ_of_ne_zero hz
    rw [hn]
    unfold finalPhi bodyAt2
    iintro ⟨⟨HS, HR⟩, Ho, ⟨%d0, H0⟩, ⟨%d1, H1⟩, ⟨%d2, H2⟩, ⟨%d3, H3⟩⟩
    iapply (final_later c (grid2.coords t) _ _ _ _ _ _ _ _ _ _ (rows (finalA V c) n.succ) (rowsCol (finalU V c) n.succ) (finalW V c) hi
      (k2_pay1 (finalW V c)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS HR]
    · isplitl [HS] <;> iassumption
    isplitl [Ho]; · iexact Ho
    isplitl [H0]; · iexact H0
    isplitl [H1]; · iexact H1
    isplitl [H2] <;> iassumption

/-! ## What the kernel leaves -/

/-- The result's array after the last block. -/
theorem final_final3 (c : Dev nD) : (finalDat V c).arrAt 3 cfg2.N = finalOut (finalA V c) (finalU V c) (finalW V c) := by
  refine (finalDat V c).arrAt_eq_of_covers 3 _ (by decide +kernel) fun t _ y => ?_
  have h := congrFun (comp_rows (finalOut (finalA V c) (finalU V c) (finalW V c)) (lt_points t) (g := fun y => ((cfg2.win 3).blk t).view.emb y)
    (fun _ => rfl) (fun _ => rfl) (moving t)) y
  exact (congrFun (rows_ofRows (fun n => k2_pay2 (rows (finalA V c) n) (rowsCol (finalU V c) n) (k2_pay1 (finalW V c))) (lt_points t)) y).symm.trans h.symm

end Cert.Ipf

end
-- ==== Proof.Regions.lean ====
/-
  The three kernels as steps of the whole program: each is entered with every array of the program held at some contents,
  and left with the same arrays held, its results at what the kernel computes and all others as they were.
-/
module

public import proofs.«01_k».proof.Proof.CastData
public import proofs.«01_k».proof.Proof.IterData
public import proofs.«01_k».proof.Proof.FinalData
public import Idealize.ShloMosaic.Lib.Pipeline.RegionArraysD

@[expose] public section

set_option maxRecDepth 16384

noncomputable section

namespace Cert.Ipf

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The contents of every array of the program, on each core. -/
abbrev Contents (F : FTy → Type) [FloatOps F] : Type := Dev nD → Valuation τ sig (Elt F)

/-- The kernels take no table ahead of their grids. -/
abbrev adm : (p : Fin 3) → (pcfgs (F := F) p).Adm := fun p => (cfgs p).toPCfg_adm

/-- Waits on a core's own cells are at one level. -/
abbrev lev : GSem nD τ sig → Finset Unit := fun g => if g.1.2 = .tc then Finset.univ else ∅
abbrev lvl : GSem nD τ sig → Unit → ℕ := fun _ _ => 0

/-- What rides beside the arrays: the core owes nothing. -/
abbrev rest (c : Dev nD) : sProp 𝕄 := iprop(∃ W, owes (c : Thread nD τ) (0 : CellTallies nD τ sig Unit) W)

/-- Every array of the program, held at the contents `V`. -/
abbrev state (V : Contents F) (c : Dev nD) : sProp 𝕄 :=
  iprop(StableHlo.held (c : Thread nD τ) (Pipeline.ucRefs τ sig) (V c) ∗ rest c)

/-- The contents `V`, array by array as a kernel names them. -/
abbrev reads (V : Contents F) (c : Dev nD) (b : Ref sig .tc) : Buf (Elt F) ((c : Thread nD τ).loc b) := V c (Proc.devRef .tc b)

/-- The proof data of the three kernels at the contents `V`. -/
def dats (V : Contents F) : (p : Fin 3) → (c : Dev nD) → Dat τ (Elt F) Unit ℕ UU ℕ (Pipeline.pin (pcfgs (F := F)) adm p) c
  | ⟨0, _⟩ => fun c => castDat (reads V) c
  | ⟨1, _⟩ => fun c => iterDat (reads V) c
  | ⟨2, _⟩ => fun c => finalDat (reads V) c

set_option backward.isDefEq.respectTransparency.types false in
/-- A kernel as a step between two contents, given what its body does and that the contents after it are its arrays' last
    contents and otherwise those before it. -/
def stepOf (p : Fin 3) (kit : Pipeline.PLaunchFacts (nD := nD) (τ := τ) (pcfgs (F := F)) p) (V V' : Contents F)
    (hbody : ∀ c, Pipeline.BodyObligationLoose (dats V p c) (defs₀ (F := F)) Variants.none () Set.univ)
    (howed : ∀ c t, (dats V p c).owed t = 0) (hrec : ∀ c, (dats V p c).recorded 0 = Set.univ)
    (hshare : ∀ c w, (dats V p c).share w = fullShare)
    (hin : ∀ c, (Pipeline.scopedRest (Pipeline.pin (pcfgs (F := F)) adm p).spec c : sProp 𝕄) ⊢ (dats V p c).Φ 0)
    (hout : ∀ c, (dats V p c).Φ (Fin.last (Pipeline.pin (pcfgs (F := F)) adm p).N)
      ⊢ (Pipeline.scopedRest (Pipeline.pin (pcfgs (F := F)) adm p).spec c : sProp 𝕄))
    (huc : ∀ w, (Pipeline.arrRef (pcfgs (F := F) p).spec w).isScoped = false)
    (hV : ∀ c w, (dats V p c).arrAt w 0 = V c (Proc.devRef .tc (Pipeline.arrRef (Pipeline.pin (pcfgs (F := F)) adm p).spec w)))
    (hV' : ∀ c w, (dats V p c).arrAt w (Pipeline.pin (pcfgs (F := F)) adm p).N
      = V' c (Proc.devRef .tc (Pipeline.arrRef (Pipeline.pin (pcfgs (F := F)) adm p).spec w)))
    (hoff : ∀ c, ∀ b ∈ Pipeline.ucRefs τ sig \ Pipeline.arrRefs (pcfgs (F := F) p).spec, V c b = V' c b) :
    Pipeline.RegionSeg (pcfgs (F := F)) adm (dats V) () defs₀ Variants.none lev lvl p :=
  (Pipeline.RegionSeg.ofHeld (pcfgs (F := F)) adm (dats V) () defs₀ Variants.none lev lvl p (fun _ => 0)
    (fun _ => BI.emp) (fun _ => BI.emp) kit rfl hbody howed hrec hshare
    (fun c => by iintro ⟨H, -⟩; iapply (hin c); iexact H)
    (fun c => by
      iintro H
      isplitl [H]; · iapply (hout c); iexact H
      iempintro)
    (fun _ => 0) ⟨fun c w s => by simp [lev], fun _ _ _ => le_refl _, fun c g i h => absurd h (by simp)⟩
    (fun c => StableHlo.held (c : Thread nD τ) (Pipeline.ucRefs τ sig \ Pipeline.arrRefs (pcfgs (F := F) p).spec) (V c))
    V V' hV hV').conseq
    (state V) (state V')
    (fun c => by
      dsimp only [Pipeline.RegionSeg.ofHeld]
      unfold state rest
      rw [StableHlo.held_sub_split (c : Thread nD τ) (Pipeline.arrRefs_sub_ucRefs _ huc) (V c)]
      iintro ⟨⟨Ha, Hr⟩, HO⟩
      isplitl [Ha]; · iexact Ha
      isplitr; · iempintro
      isplitl [Hr]; · iexact Hr
      iexact HO)
    (fun c => by
      dsimp only [Pipeline.RegionSeg.ofHeld]
      unfold state rest
      rw [StableHlo.held_sub_split (c : Thread nD τ) (Pipeline.arrRefs_sub_ucRefs _ huc) (V' c),
        show StableHlo.held (c : Thread nD τ) (Pipeline.ucRefs τ sig \ Pipeline.arrRefs (pcfgs (F := F) p).spec) (V c)
          = (StableHlo.held (c : Thread nD τ) (Pipeline.ucRefs τ sig \ Pipeline.arrRefs (pcfgs (F := F) p).spec) (V' c) : sProp 𝕄)
          from BI.bigSep_congr fun b hb => by rw [hoff c b hb]]
      iintro ⟨Ha, -, Hr, HO⟩
      isplitl [Ha Hr]
      · isplitl [Ha] <;> iassumption
      iexact HO)

/-! ## The contents after each kernel -/

/-- The contents after the first kernel: the matrix of absolute values, its row factors, its scaled column sums. -/
def afterCast (V : Contents F) : Contents F := fun c =>
  Function.update (Function.update (Function.update (V c) (Proc.devRef .tc main_v0_0) (castA (V c main_arg0)))
    (Proc.devRef .tc main_v0_1) (castU (V c main_arg0))) (Proc.devRef .tc main_v0_2) (castW (V c main_arg0))

/-- The contents after the second kernel: the next row factors and scaled column sums. -/
def afterIter (V : Contents F) : Contents F := fun c =>
  Function.update (Function.update (V c) (Proc.devRef .tc main_while0b_v4_0) (iterU (V c main_v1_0) (V c main_v1_4)))
    (Proc.devRef .tc main_while0b_v4_1) (iterW (V c main_v1_0) (V c main_v1_4))

/-- The contents after the third kernel: the result. -/
def afterFinal (V : Contents F) : Contents F := fun c =>
  Function.update (V c) (Proc.devRef .tc main_v2) (finalOut (V c main_v0_0) (V c main_v1_3) (V c main_v1_4))

/-! ## The three steps -/

theorem off_of {S : Finset (DevRef τ sig)} {b r : DevRef τ sig} {x : r.ty.Contents (Elt F)} (V : Valuation τ sig (Elt F))
    (hr : r ∈ S) (hb : b ∉ S) : Function.update V r x b = V b :=
  Function.update_of_ne (fun h : b = r => hb (by rw [h]; exact hr)) _ _

/-- What each kernel's body does, at the contents `V`. -/
theorem cast_body (V : Contents F) (c : Dev nD) : Pipeline.BodyObligationLoose (dats V 0 c) (defs₀ (F := F)) Variants.none () Set.univ :=
  (cast_obligation (reads V) c).loose
theorem iter_body (V : Contents F) (c : Dev nD) : Pipeline.BodyObligationLoose (dats V 1 c) (defs₀ (F := F)) Variants.none () Set.univ :=
  (iter_obligation (reads V) c).loose
theorem final_body (V : Contents F) (c : Dev nD) : Pipeline.BodyObligationLoose (dats V 2 c) (defs₀ (F := F)) Variants.none () Set.univ :=
  (final_obligation (reads V) c).loose

/-- Before a kernel its scratch buffers hold anything, and they are handed back after it. -/
theorem cast_enter (V : Contents F) (c : Dev nD) : (Pipeline.scopedRest spec0 c : sProp 𝕄) ⊢ (dats V 0 c).Φ 0 := by
  rw [show (dats V 0 c).Φ 0 = Pipeline.scopedRest spec0 c from rfl]
theorem cast_leave (V : Contents F) (c : Dev nD) : (dats V 0 c).Φ (Fin.last cfg0.N) ⊢ (Pipeline.scopedRest spec0 c : sProp 𝕄) := by
  rw [show (dats V 0 c).Φ (Fin.last cfg0.N) = Pipeline.scopedRest spec0 c from rfl]
theorem iter_enter (V : Contents F) (c : Dev nD) : (Pipeline.scopedRest spec1 c : sProp 𝕄) ⊢ (dats V 1 c).Φ 0 := by
  rw [show (dats V 1 c).Φ 0 = Pipeline.scopedRest spec1 c from rfl]
theorem iter_leave (V : Contents F) (c : Dev nD) : (dats V 1 c).Φ (Fin.last cfg1.N) ⊢ (Pipeline.scopedRest spec1 c : sProp 𝕄) := by
  rw [show (dats V 1 c).Φ (Fin.last cfg1.N) = iterPhi (reads V) c (31 + 1) from rfl]
  unfold iterPhi
  rw [scopedRest_take spec1 cc1_scratch0 (by decide) c]
  iintro ⟨HS, HR⟩
  isplitl [HS]; · iexists _; iexact HS
  iexact HR
theorem final_enter (V : Contents F) (c : Dev nD) : (Pipeline.scopedRest spec2 c : sProp 𝕄) ⊢ (dats V 2 c).Φ 0 := by
  rw [show (dats V 2 c).Φ 0 = Pipeline.scopedRest spec2 c from rfl]
theorem final_leave (V : Contents F) (c : Dev nD) : (dats V 2 c).Φ (Fin.last cfg2.N) ⊢ (Pipeline.scopedRest spec2 c : sProp 𝕄) := by
  rw [show (dats V 2 c).Φ (Fin.last cfg2.N) = finalPhi (reads V) c (31 + 1) from rfl]
  unfold finalPhi
  rw [scopedRest_take spec2 cc2_scratch0 (by decide) c]
  iintro ⟨HS, HR⟩
  isplitl [HS]; · iexists _; iexact HS
  iexact HR

/-- The first kernel as a step. -/
def castStep (V : Contents F) : Pipeline.RegionSeg (pcfgs (F := F)) adm (dats V) () defs₀ Variants.none lev lvl 0 :=
  stepOf 0 launch0.toP V (afterCast V) (cast_body V) (fun _ _ => rfl) (fun _ => rfl)
    (fun c => (castDat (reads V) c).share_full fun _ => rfl) (cast_enter V) (cast_leave V) (show ∀ w, (Pipeline.arrRef spec0 w).isScoped = false by decide)
    (fun c w => rfl)
    (fun c w => by
      fin_cases w
      · exact (castDat (reads V) c).arrAt_in 0 rfl _
      · exact cast_final1 (reads V) c
      · exact cast_final2 (reads V) c
      · exact cast_final3 (reads V) c)
    (fun c b hb => by
      have h := (Finset.mem_sdiff.mp hb).2
      unfold afterCast
      rw [off_of _ (S := Pipeline.arrRefs spec0) (by decide) h, off_of _ (S := Pipeline.arrRefs spec0) (by decide) h,
        off_of _ (S := Pipeline.arrRefs spec0) (by decide) h])

/-- The second kernel as a step. -/
def iterStep (V : Contents F) : Pipeline.RegionSeg (pcfgs (F := F)) adm (dats V) () defs₀ Variants.none lev lvl 1 :=
  stepOf 1 launch1.toP V (afterIter V) (iter_body V) (fun _ _ => rfl) (fun _ => rfl)
    (fun c => (iterDat (reads V) c).share_full fun _ => rfl) (iter_enter V)
    (iter_leave V) (show ∀ w, (Pipeline.arrRef spec1 w).isScoped = false by decide)
    (fun c w => rfl)
    (fun c w => by
      fin_cases w
      · exact (iterDat (reads V) c).arrAt_in 0 rfl _
      · exact (iterDat (reads V) c).arrAt_in 1 rfl _
      · exact iter_final2 (reads V) c
      · exact iter_final3 (reads V) c)
    (fun c b hb => by
      have h := (Finset.mem_sdiff.mp hb).2
      unfold afterIter
      rw [off_of _ (S := Pipeline.arrRefs spec1) (by decide) h, off_of _ (S := Pipeline.arrRefs spec1) (by decide) h])

/-- The third kernel as a step. -/
def finalStep (V : Contents F) : Pipeline.RegionSeg (pcfgs (F := F)) adm (dats V) () defs₀ Variants.none lev lvl 2 :=
  stepOf 2 launch2.toP V (afterFinal V) (final_body V) (fun _ _ => rfl) (fun _ => rfl)
    (fun c => (finalDat (reads V) c).share_full fun _ => rfl) (final_enter V)
    (final_leave V) (show ∀ w, (Pipeline.arrRef spec2 w).isScoped = false by decide)
    (fun c w => rfl)
    (fun c w => by
      fin_cases w
      · exact (finalDat (reads V) c).arrAt_in 0 rfl _
      · exact (finalDat (reads V) c).arrAt_in 1 rfl _
      · exact (finalDat (reads V) c).arrAt_in 2 rfl _
      · exact final_final3 (reads V) c)
    (fun c b hb => by
      have h := (Finset.mem_sdiff.mp hb).2
      unfold afterFinal
      rw [off_of _ (S := Pipeline.arrRefs spec2) (by decide) h])

end Cert.Ipf

end
-- ==== Proof.Trips.lean ====
/-
  The program's arrays from the launch to the end: after the first kernel, at the loop's entry, before each trip of the
  loop, after the loop and after the last kernel; and what the arrays that matter hold at each of these points.
-/
module

public import proofs.«01_k».proof.Proof.Regions
public import proofs.«01_k».proof.Proof.Gen.KernelIdeal.Regions
public import Idealize.ShloMosaic.Lib.StableHlo.RunLoop
public import Idealize.ShloMosaic.Lib.Scf.Counter

@[expose] public section

set_option maxRecDepth 16384

noncomputable section

namespace Cert.Ipf

open Cert.KernelIdeal Cert.KernelIdeal.Gen

open Idealize.ShloMosaic Idealize.ShloMosaic.TcCoe
open Idealize.ShloMosaic.StableHlo (after after_of_writes_sub forall_writes_sub_of_map)

variable {F : FTy → Type} [FloatOps F]

/-! ## The host operations -/

/-- The loop's test: the trip counter against nine. -/
abbrev condOps : List (HloOp τ sig (Elt F)) :=
  [ StableHlo.nullary main_while0c_c_5 (constantI S_ 32 9#32),
    StableHlo.binary main_v1_1 main_while0c_c_5 main_while0c_v3 (cmpi .slt) ]

/-- The arrays each stretch of host operations writes, in order. -/
abbrev condWrites : List (Ref sig .tc) := [main_while0c_c_5, main_while0c_v3]
abbrev headWrites : List (Ref sig .tc) := [main_while0b_c_5, main_while0b_v3]
abbrev tailWrites : List (Ref sig .tc) := [main_while0b_c_6, main_while0b_v5, main_v1_1, main_v1_2, main_v1_3, main_v1_4]

theorem cond_writes : (condOps : List (HloOp τ sig (Elt F))).Forall fun op => op.writes ⊆ (condWrites.map (Proc.devRef (τ := τ) .tc)).toFinset :=
  forall_writes_sub_of_map rfl
theorem head_writes : (while0Ops0 : List (HloOp τ sig (Elt F))).Forall fun op => op.writes ⊆ (headWrites.map (Proc.devRef (τ := τ) .tc)).toFinset :=
  forall_writes_sub_of_map rfl
theorem tail_writes : (while0Ops1 : List (HloOp τ sig (Elt F))).Forall fun op => op.writes ⊆ (tailWrites.map (Proc.devRef (τ := τ) .tc)).toFinset :=
  forall_writes_sub_of_map rfl

/-! ## The contents at each point -/

/-- One trip of the loop: the test, the operations before the kernel, the kernel, the operations after it. -/
def trip (V : Contents F) : Contents F := fun c =>
  after while0Ops1 (afterIter (fun c => after while0Ops0 (after condOps (V c))) c)

/-- The contents before trip `k`, from `V` at the loop's entry. -/
def before (V : Contents F) : ℕ → Contents F
  | 0 => V
  | k + 1 => trip (before V k)

variable (m : (ℓ : Loc nD τ sig) → Buf (Elt F) ℓ)

/-- The contents at launch, at the loop's entry, after the loop, at the end. -/
def atLaunch : Contents F := fun c b => m (c, b)
def atLoop : Contents F := fun c => after hostOps1 (afterCast (atLaunch m) c)
def pastLoop : Contents F := fun c => after condOps (before (atLoop m) 9 c)
def atEnd : Contents F := afterFinal (pastLoop m)

/-! ## What a kernel leaves alone -/

theorem update_other {r s : Ref sig .tc} (V : Valuation τ sig (Elt F)) (x : (Proc.devRef (τ := τ) .tc s).ty.Contents (Elt F)) (h : r ≠ s) :
    Function.update V (Proc.devRef .tc s) x (Proc.devRef .tc r) = V (Proc.devRef .tc r) :=
  Function.update_of_ne (StableHlo.devRef_ne_of_ne h) _ _

theorem afterCast_other (V : Contents F) (c : Dev nD) {r : Ref sig .tc} (h : r ∉ [main_v0_0, main_v0_1, main_v0_2]) :
    afterCast V c (Proc.devRef .tc r) = V c (Proc.devRef .tc r) := by
  simp only [List.mem_cons, List.not_mem_nil, or_false, not_or] at h
  unfold afterCast
  rw [update_other _ _ h.2.2, update_other _ _ h.2.1, update_other _ _ h.1]

theorem afterCast_0 (V : Contents F) (c : Dev nD) : afterCast V c main_v0_0 = castA (V c main_arg0) := by
  unfold afterCast
  rw [update_other _ _ (by decide), update_other _ _ (by decide), Function.update_self]
theorem afterCast_1 (V : Contents F) (c : Dev nD) : afterCast V c main_v0_1 = castU (V c main_arg0) := by
  unfold afterCast
  rw [update_other _ _ (by decide), Function.update_self]
theorem afterCast_2 (V : Contents F) (c : Dev nD) : afterCast V c main_v0_2 = castW (V c main_arg0) := by
  unfold afterCast
  rw [Function.update_self]

theorem afterIter_other (V : Contents F) (c : Dev nD) {r : Ref sig .tc} (h : r ∉ [main_while0b_v4_0, main_while0b_v4_1]) :
    afterIter V c (Proc.devRef .tc r) = V c (Proc.devRef .tc r) := by
  simp only [List.mem_cons, List.not_mem_nil, or_false, not_or] at h
  unfold afterIter
  rw [update_other _ _ h.2, update_other _ _ h.1]
theorem afterIter_0 (V : Contents F) (c : Dev nD) : afterIter V c main_while0b_v4_0 = iterU (V c main_v1_0) (V c main_v1_4) := by
  unfold afterIter
  rw [update_other _ _ (by decide), Function.update_self]
theorem afterIter_1 (V : Contents F) (c : Dev nD) : afterIter V c main_while0b_v4_1 = iterW (V c main_v1_0) (V c main_v1_4) := by
  unfold afterIter
  rw [Function.update_self]

/-! ## One trip -/

/-- An array that no operation of the trip writes is as it was. -/
theorem trip_other (V : Contents F) (c : Dev nD) {r : Ref sig .tc} (h₁ : r ∉ condWrites) (h₂ : r ∉ headWrites)
    (h₃ : r ∉ [main_while0b_v4_0, main_while0b_v4_1]) (h₄ : r ∉ tailWrites) : trip V c (Proc.devRef .tc r) = V c (Proc.devRef .tc r) := by
  unfold trip
  rw [after_of_writes_sub while0Ops1 _ tail_writes h₄, afterIter_other _ _ h₃, after_of_writes_sub while0Ops0 _ head_writes h₂,
    after_of_writes_sub condOps _ cond_writes h₁]

/-- An array that neither the test nor the operations before the kernel write is as it was when the kernel is entered. -/
theorem entered (V : Contents F) (c : Dev nD) {r : Ref sig .tc} (h₁ : r ∉ condWrites) (h₂ : r ∉ headWrites) :
    after while0Ops0 (after condOps (V c)) (Proc.devRef .tc r) = V c (Proc.devRef .tc r) := by
  rw [after_of_writes_sub while0Ops0 _ head_writes h₂, after_of_writes_sub condOps _ cond_writes h₁]

theorem tail_counter (X : Valuation τ sig (Elt F)) : after while0Ops1 X main_v1_1 = addi (X main_v1_1) (constantI S_ 32 1#32) := by
  after_results
  rfl
theorem tail_u (X : Valuation τ sig (Elt F)) : after while0Ops1 X main_v1_3 = X main_while0b_v4_0 := by
  after_results
  rfl
theorem tail_w (X : Valuation τ sig (Elt F)) : after while0Ops1 X main_v1_4 = X main_while0b_v4_1 := by
  after_results
  rfl

/-- A trip counts one on, and puts the next row factors and column sums in place of the last. -/
theorem trip_counter (V : Contents F) (c : Dev nD) : trip V c main_v1_1 = addi (V c main_v1_1) (constantI S_ 32 1#32) := by
  unfold trip
  rw [tail_counter, afterIter_other _ _ (by decide), entered _ _ (by decide) (by decide)]
theorem trip_u (V : Contents F) (c : Dev nD) : trip V c main_v1_3 = iterU (V c main_v1_0) (V c main_v1_4) := by
  unfold trip
  rw [tail_u, afterIter_0, entered _ _ (by decide) (by decide), entered _ _ (by decide) (by decide)]
theorem trip_w (V : Contents F) (c : Dev nD) : trip V c main_v1_4 = iterW (V c main_v1_0) (V c main_v1_4) := by
  unfold trip
  rw [tail_w, afterIter_1, entered _ _ (by decide) (by decide), entered _ _ (by decide) (by decide)]

/-! ## At the loop's entry -/

theorem atLoop_other (c : Dev nD) {r : Ref sig .tc} (h : r ∉ Cond.hostOps1_W) :
    atLoop m c (Proc.devRef .tc r) = afterCast (atLaunch m) c (Proc.devRef .tc r) :=
  after_of_writes_sub hostOps1 _ Cond.hostOps1_writes h
theorem atLoop_counter (c : Dev nD) : atLoop m c main_v1_1 = fun _ => (0#32 : BitVec 32) := by
  unfold atLoop
  after_results
  rfl
theorem atLoop_A (c : Dev nD) : atLoop m c main_v1_0 = castA (m ((c : Thread nD τ).loc main_arg0)) := by
  unfold atLoop
  after_results
  exact afterCast_0 _ c
theorem atLoop_u (c : Dev nD) : atLoop m c main_v1_3 = castU (m ((c : Thread nD τ).loc main_arg0)) := by
  unfold atLoop
  after_results
  exact afterCast_1 _ c
theorem atLoop_w (c : Dev nD) : atLoop m c main_v1_4 = castW (m ((c : Thread nD τ).loc main_arg0)) := by
  unfold atLoop
  after_results
  exact afterCast_2 _ c

/-! ## Before trip `k` -/

/-- The row factors and scaled column sums after the first kernel and `k` trips, from the matrix `W`. -/
def factors (W : Vec F S8192x8192 .f32) : ℕ → Vec F S8192x1 .f32 × Vec F S1x8192 .f32
  | 0 => (castU W, castW W)
  | k + 1 => (iterU (castA W) (factors W k).2, iterW (castA W) (factors W k).2)

theorem before_counter (c : Dev nD) : ∀ k, before (atLoop m) k c main_v1_1 = fun _ => Scf.iv 0#32 1#32 k
  | 0 => (atLoop_counter m c).trans (by rw [Scf.iv_zero])
  | k + 1 => by
    rw [show before (atLoop m) (k + 1) c = trip (before (atLoop m) k) c from rfl, trip_counter, before_counter c k, Scf.iv_succ]
    rfl

/-- An array that no trip writes is as it was at the loop's entry. -/
theorem before_other (c : Dev nD) {r : Ref sig .tc} (h₁ : r ∉ condWrites) (h₂ : r ∉ headWrites)
    (h₃ : r ∉ [main_while0b_v4_0, main_while0b_v4_1]) (h₄ : r ∉ tailWrites) :
    ∀ k, before (atLoop m) k c (Proc.devRef .tc r) = atLoop m c (Proc.devRef .tc r)
  | 0 => rfl
  | k + 1 => (trip_other _ c h₁ h₂ h₃ h₄).trans (before_other c h₁ h₂ h₃ h₄ k)

theorem before_A (c : Dev nD) (k : ℕ) : before (atLoop m) k c main_v1_0 = castA (m ((c : Thread nD τ).loc main_arg0)) :=
  (before_other m c (by decide) (by decide) (by decide) (by decide) k).trans (atLoop_A m c)

theorem before_w (c : Dev nD) : ∀ k, before (atLoop m) k c main_v1_4 = (factors (m ((c : Thread nD τ).loc main_arg0)) k).2
  | 0 => atLoop_w m c
  | k + 1 => by
    rw [show before (atLoop m) (k + 1) c = trip (before (atLoop m) k) c from rfl, trip_w, before_A, before_w c k]
    rfl

theorem before_u (c : Dev nD) : ∀ k, before (atLoop m) k c main_v1_3 = (factors (m ((c : Thread nD τ).loc main_arg0)) k).1
  | 0 => atLoop_u m c
  | k + 1 => by
    rw [show before (atLoop m) (k + 1) c = trip (before (atLoop m) k) c from rfl, trip_u, before_A, before_w m c k]
    rfl

/-! ## At the end -/

theorem pastLoop_other (c : Dev nD) {r : Ref sig .tc} (h : r ∉ condWrites) :
    pastLoop m c (Proc.devRef .tc r) = before (atLoop m) 9 c (Proc.devRef .tc r) :=
  after_of_writes_sub condOps _ cond_writes h

/-- The kernel's result, as a function of the matrix. -/
def result (W : Vec F S8192x8192 .f32) : Vec F S8192x8192 .f32 :=
  finalOut (castA W) (factors W 9).1 (factors W 9).2

theorem atEnd_result (c : Dev nD) : atEnd m c main_v2 = result (m ((c : Thread nD τ).loc main_arg0)) := by
  unfold atEnd afterFinal
  rw [Function.update_self, pastLoop_other _ _ (by decide), pastLoop_other _ _ (by decide), pastLoop_other _ _ (by decide),
    before_other m c (by decide) (by decide) (by decide) (by decide), before_u, before_w, atLoop_other _ _ (by decide), afterCast_0]
  rfl

theorem atEnd_arg (c : Dev nD) : atEnd m c main_arg0 = m ((c : Thread nD τ).loc main_arg0) := by
  unfold atEnd afterFinal
  rw [update_other _ _ (by decide), pastLoop_other _ _ (by decide), before_other m c (by decide) (by decide) (by decide) (by decide),
    atLoop_other _ _ (by decide), afterCast_other _ _ (by decide)]
  rfl

end Cert.Ipf

end
-- ==== Proof.Loop.lean ====
/-
  The loop of the host program as one step: from the contents at its entry it runs its nine trips, each entering the second
  kernel once, and leaves the contents after the last test.
-/
module

public import proofs.«01_k».proof.Proof.Trips
public import Idealize.ShloMosaic.Lib.StableHlo.RunLoopItems
public import Idealize.ShloMosaic.Lib.Scf.ExitTest

@[expose] public section

set_option maxRecDepth 16384

noncomputable section

namespace Cert.Ipf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat CSeg Ticket)
open Idealize.ShloMosaic.StableHlo (after LoopItem)

variable {F : FTy → Type} [FloatOps F]

local notation "𝕄" => MT nD τ sig Unit (Elt F) ℕ UU ℕ

/-- The eleven entries of a kernel: the first kernel, the last, and the second once per trip of the loop. -/
abbrev entries (V : Contents F) (j : Fin 11) : Ticket (Ix := Unit) (Name := ℕ) (U := UU) (Lvl := ℕ) (nD := nD) (τ := τ) (pcfgs (F := F)) adm :=
  ⟨Cond.tkP j, dats V, embAt j⟩

/-- The entry that trip `k` uses. -/
def entryOf (k : ℕ) : Fin 11 := ⟨k % 9 + 2, by omega⟩

/-- Each trip's entry is one of the second kernel. -/
theorem entryOf_kernel (V : Contents F) (k : ℕ) : (entries V (entryOf k)).p = 1 :=
  (show ∀ j : Fin 9, Cond.tkP ⟨j.val + 2, by omega⟩ = 1 by decide) ⟨k % 9, Nat.mod_lt _ (by decide)⟩

theorem entryOf_ne {k k' : ℕ} (h : k < k') (h' : k' < 9) : entryOf k ≠ entryOf k' := fun e => by
  have := congrArg Fin.val e
  unfold entryOf at this
  dsimp only at this
  omega

/-- The body of the loop: the host operations before the kernel, the kernel, the host operations after it. -/
abbrev bodyItems (V : Contents F) : List (LoopItem (pcfgs (F := F)) adm defs₀ Variants.none lev lvl loops (entries V) (Pipeline.ucRefs τ sig) rest) :=
  [ LoopItem.ofOps (pcfgs (F := F)) adm defs₀ Variants.none lev lvl loops (entries V) (Pipeline.ucRefs τ sig) rest while0Ops0
      (fun op h => Pipeline.sub_ucRefs op ((List.forall_iff_forall_mem.mp while0Ops0_sub) op h)) (by intro op h; fin_cases h <;> rfl),
    LoopItem.region (pcfgs (F := F)) adm defs₀ Variants.none lev lvl loops (entries V) (Pipeline.ucRefs τ sig) rest ()
      cellOf_inj 1 entryOf (entryOf_kernel V) dats iterStep afterIter (fun _ => True)
      (fun _ _ _ => .rfl) (fun _ _ => .rfl),
    LoopItem.ofOps (pcfgs (F := F)) adm defs₀ Variants.none lev lvl loops (entries V) (Pipeline.ucRefs τ sig) rest while0Ops1
      (fun op h => Pipeline.sub_ucRefs op ((List.forall_iff_forall_mem.mp while0Ops1_sub) op h)) (by intro op h; fin_cases h <;> rfl) ]

/-- The contents that the items leave trip after trip are `before`. -/
theorem atTrip_eq (V V₀ : Contents F) : ∀ k, StableHlo.atTripI condOps (bodyItems V) V₀ k = before V₀ k
  | 0 => rfl
  | k + 1 => by
    rw [StableHlo.atTripI_succ, atTrip_eq V V₀ k]
    rfl

variable (m : (ℓ : Loc nD τ sig) → Buf (Elt F) ℓ)

set_option backward.isDefEq.respectTransparency.types false in
/-- The loop's test before trip `k` says "go on" exactly while `k < 9`. -/
theorem cond_spec (V : Contents F) :
    StableHlo.LoopCondI (pcfgs (F := F)) adm defs₀ Variants.none lev lvl loops (entries V) (Pipeline.ucRefs τ sig) rest
      (main_while0_cond (F := F)) condOps (bodyItems V) (atLoop m) 9 := by
  intro k hk c bd
  rw [atTrip_eq]
  have hctr := before_counter m c k
  unfold main_while0_cond
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (before (atLoop m) k c) main_v1_1 HostLoop.idx0)
        (HloOp.result _ (before (atLoop m) k c) main_while0c_c_5 HostLoop.idx0) = 1#1) (k < 9)
    rw [StableHlo.nullary_result_ne _ _ _ _ (by decide), StableHlo.nullary_result, hctr]
    exact Scf.cmpi_slt_iv_ub_iff (lb := 0#32) (ub := 9#32) (st := 1#32) (by decide) (show k ≤ Scf.trips 0#32 9#32 1#32 from hk)
  isplitl [Hb]; · iexact Hb
  isplitl [Hh]; · rw [StableHlo.after_cons, StableHlo.after_cons, StableHlo.after_nil]; iexact Hh
  iexact HR

set_option maxRecDepth 100000 in
/-- The loop's body is its items in order. -/
theorem body_items (V : Contents F) : main_while0_body (F := F) = Pipeline.chain ((bodyItems V).map LoopItem.prog) := by
  rw [while0_body_chain]
  rfl

/-- The whole loop. -/
def loopStep (V : Contents F) : CSeg (pcfgs (F := F)) adm defs₀ Variants.none lev lvl loops (entries V) :=
  StableHlo.loopSegI (pcfgs (F := F)) adm defs₀ Variants.none lev lvl loops (entries V) (Pipeline.ucRefs τ sig) rest 0
    (main_while0_cond (F := F)) (main_while0_body (F := F)) rfl condOps (bodyItems V) (body_items V) 9 (atLoop m)
    (cond_spec m V) (fun _ _ => ⟨trivial, trivial, trivial, trivial⟩)
    (fun k _ => List.pairwise_cons.mpr ⟨fun _ _ => Finset.disjoint_empty_left _,
      List.pairwise_cons.mpr ⟨fun i hi => by
        obtain rfl := List.mem_singleton.mp hi
        exact Finset.disjoint_empty_right _, List.pairwise_singleton ..⟩⟩)
    (fun k k' h h' => by
      show Disjoint (∅ ∪ ({entryOf k} ∪ (∅ ∪ ∅))) (∅ ∪ ({entryOf k'} ∪ (∅ ∪ ∅)))
      simp only [Finset.empty_union, Finset.union_empty, Finset.disjoint_singleton]
      exact entryOf_ne h h')

theorem loopStep_pre (V : Contents F) (c : Dev nD) : (loopStep m V).pre c = state (atLoop m) c := rfl

theorem loopStep_post (V : Contents F) (c : Dev nD) : (loopStep m V).post c = state (pastLoop m) c := by
  have h : (loopStep m V).post c = iprop(StableHlo.held (c : Thread nD τ) (Pipeline.ucRefs τ sig)
      (after condOps (StableHlo.atTripI condOps (bodyItems V) (atLoop m) 9 c)) ∗ rest c) := rfl
  rw [h, atTrip_eq]
  rfl

theorem loopStep_prog (V : Contents F) : (loopStep m V).prog = HostLoop.enter 0 := rfl

/-- The loop uses the entries from the third on. -/
theorem loopStep_entries (V : Contents F) : ∀ j ∈ (loopStep m V).T, j ≠ 0 ∧ j ≠ 1 := by
  intro j hj
  have h : (loopStep m V).T = (Finset.range 9).biUnion fun k => StableHlo.ticketsL k (bodyItems V) := rfl
  rw [h] at hj
  obtain ⟨k, -, hk⟩ := Finset.mem_biUnion.mp hj
  have hk' : j ∈ (∅ ∪ ({entryOf k} ∪ (∅ ∪ ∅)) : Finset (Fin 11)) := hk
  simp only [Finset.empty_union, Finset.union_empty, Finset.mem_singleton] at hk'
  subst hk'
  constructor <;> intro e <;> have := congrArg Fin.val e <;> simp [entryOf] at this

end Cert.Ipf

end
-- ==== Proof.Run.lean ====
/-
  The run of the whole program: from any memory it ends, its result is `result` of the matrix it was given, the matrix is
  as it was, and every semaphore is back at zero.
-/
module

public import proofs.«01_k».proof.Proof.Loop

@[expose] public section

set_option maxRecDepth 16384

noncomputable section

namespace Cert.Ipf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat CSeg Ticket)

variable {F : FTy → Type} [FloatOps F]

local notation "𝕄" => MT nD τ sig Unit (Elt F) ℕ UU ℕ

variable (m : (ℓ : Loc nD τ sig) → Buf (Elt F) ℓ)

/-- A segment of the host program. -/
abbrev Segment : Type 1 := CSeg (pcfgs (F := F)) adm defs₀ Variants.none lev lvl loops (entries (atLaunch m))

/-- The first kernel, the host operations before the loop, the loop, the last kernel. -/
abbrev segCast : Segment m :=
  CSeg.regionAtP (pcfgs (F := F)) adm () cellOf_inj defs₀ Variants.none lev lvl loops (entries (atLaunch m)) 0 rfl (dats (atLaunch m)) (castStep (atLaunch m))
abbrev segHost : Segment m :=
  CSeg.ofOps _ _ _ _ _ _ _ _ (Pipeline.ucRefs τ sig) hostOps1
    (fun op h => Pipeline.sub_ucRefs op ((List.forall_iff_forall_mem.mp hostOps1_sub) op h))
    (fun op h => (List.forall_iff_forall_mem.mp Cond.hostOps1_fresh) op h) (afterCast (atLaunch m)) rest
abbrev segLoop : Segment m := loopStep m (atLaunch m)
abbrev segFinal : Segment m :=
  CSeg.regionAtP (pcfgs (F := F)) adm () cellOf_inj defs₀ Variants.none lev lvl loops (entries (atLaunch m)) 1 rfl (dats (pastLoop m)) (finalStep (pastLoop m))

abbrev segments : List (Segment m) := [segCast m, segHost m, segLoop m, segFinal m]

/-- The host program is these four segments in order. -/
theorem main_segments (c : Dev nD) : main (F := F) c = CSeg.runL (segments m) := by
  rw [main_chain c, CSeg.runL]
  rfl

/-- No two of them enter a kernel through the same entry. -/
theorem segments_disjoint : (segments m).Pairwise fun s s' => Disjoint s.T s'.T := by
  have hl : ∀ j : Fin 11, j = 0 ∨ j = 1 → Disjoint ({j} : Finset (Fin 11)) (segLoop m).T := fun j hj =>
    Finset.disjoint_singleton_left.mpr fun h => by
      rcases hj with rfl | rfl
      · exact (loopStep_entries m _ _ h).1 rfl
      · exact (loopStep_entries m _ _ h).2 rfl
  refine List.pairwise_cons.mpr ⟨fun s hs => ?_, List.pairwise_cons.mpr ⟨fun s _ => Finset.disjoint_empty_left _,
    List.pairwise_cons.mpr ⟨fun s hs => ?_, List.pairwise_singleton ..⟩⟩⟩
  · simp only [List.mem_cons, List.not_mem_nil, or_false] at hs
    rcases hs with rfl | rfl | rfl
    · exact Finset.disjoint_empty_right _
    · exact hl 0 (.inl rfl)
    · exact (show Disjoint ({0} : Finset (Fin 11)) {1} by decide)
  · obtain rfl := List.mem_singleton.mp hs
    exact (hl 1 (.inr rfl)).symm

/-- The launch's resources: one copy of the launch library's for each entry. -/
theorem entries_owned : (ownU ((fun _ => initOf (Pipeline.cells cfgs cellOf_inj) (Pipeline.launchToks cfgs cellOf_inj) : IProdConst (Fin 11) (UR sig nD τ)), (1 : Counters)) : sProp 𝕄)
    ⊢ |={Set.univ}=> iprop((bigSep Finset.univ fun j => BI.own ((entries (atLaunch m) j).EP (initOf (Pipeline.cells cfgs cellOf_inj) (Pipeline.launchToks cfgs cellOf_inj))))
        ∗ bigSep Finset.univ fun _ : Dev nD => (BI.emp : sProp 𝕄)) := by
  iintro Hu
  ihave H := (ownU_pair _ _) $$ Hu
  icases H with ⟨HP, -⟩
  ihave HP' := (own_iprod _) $$ HP
  imodintro
  isplitl [HP']; · iexact HP'
  rw [BI.bigSep_emp_const]
  iempintro

/-- What a core's launch hands over holds every array at its launch contents. -/
theorem launch_core (ρ : Dev nD → PrngReg) (c : Dev nD) :
    (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ state (atLaunch m) c := by
  unfold state rest
  rw [← Pipeline.unscopedBufs_held (Ix := Unit) (Name := ℕ) (U := UU) (Lvl := ℕ) c (atLaunch m c)]
  iintro ⟨HB, -, HO, -⟩
  isplitl [HB]; · iexact HB
  iexists ∅; iexact HO

theorem launch_state (ρ : Dev nD → PrngReg) :
    (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ bigSep Finset.univ (state (atLaunch m)) := BI.bigSep_mono fun c _ => launch_core m ρ c

set_option backward.isDefEq.respectTransparency.types false in
/-- The run. -/
theorem run (ρ : Dev nD → PrngReg) :
    θ_run defs (onTc (τ := τ) (main (F := F))) ⟨m, fun _ => 0, ρ⟩ (fun r =>
      (∀ c : Dev nD, r.2.mem ((c.tc : Thread nD τ).loc main_v2) = result (m ((c.tc : Thread nD τ).loc main_arg0))
        ∧ r.2.mem ((c.tc : Thread nD τ).loc main_arg0) = m ((c.tc : Thread nD τ).loc main_arg0))
      ∧ r.2.sem = fun _ => 0) := by
  refine Pipeline.θ_run_regions_loop_kit_dev_sems (pcfgs (F := F)) adm cellOf_inj defs₀ Variants.none lev lvl loops (entries (atLaunch m)) m ρ main
    (fun _ => segments m) (fun c Q => by rw [main_segments m c]) (fun _ => segments_disjoint m)
    (fun _ => 0) (fun g hg => by simp [lev, hg]) (fun _ => BI.emp) _ (entries_owned m)
    (T₀ := state (atLaunch m))
    (Tₙ := fun c => StableHlo.held (c : Thread nD τ) (Pipeline.ucRefs τ sig) (atEnd m c))
    (hch := fun c => ⟨.rfl, .rfl, .rfl, Entails.of_eq (loopStep_post m _ c), .rfl⟩)
    (hinit := ?_)
    (QY := fun c s => s.mem ((c.tc : Thread nD τ).loc main_v2) = result (m ((c.tc : Thread nD τ).loc main_arg0))
      ∧ s.mem ((c.tc : Thread nD τ).loc main_arg0) = m ((c.tc : Thread nD τ).loc main_arg0))
    (hfin := fun c s' => ?_) (hQ := fun _ h hz => ⟨h, funext fun g => hz g (.inr (Cond.regions_no_unscoped g.2))⟩)
  · iintro ⟨H, -⟩
    imodintro
    iapply (launch_state m ρ)
    iexact H
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (atEnd_result m c),
        (h (Proc.devRef .tc main_arg0) (Finset.mem_filter.mpr ⟨StableHlo.devRef_mem_tcRefs main_arg0, by decide⟩)).trans (atEnd_arg m c)⟩
    · iexact HSI

end Cert.Ipf

end
-- ==== Proof.Frames.lean ====
/-
  The three programs run, leave their argument as it was, and leave every semaphore at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_summable

@[expose] public section

set_option maxRecDepth 16384

noncomputable section

namespace Cert.Ipf

open Idealize.ShloMosaic Idealize.ShloMosaic.TcCoe Idealize.SL.Sem

section AnyFloats
variable {F : FTy → Type} [FloatOps F]

/-- The kernel at any float values: it runs, its argument is unchanged, the semaphores end at zero. -/
theorem frame_ideal_text (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (run m g)

/-- The kernel's own text and its text read over the extended reals are the same program: the three kernel bodies … -/
theorem same_bodies : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl
  | 1, (t, s) => rfl
  | 2, (t, s) => rfl

set_option maxRecDepth 100000 in
/-- … the loop … -/
theorem same_loops : Cert.Kernel.loops (F := F) = Cert.KernelIdeal.loops (F := F) := rfl

/-- … every body … -/
theorem same_defs : Cert.Kernel.defs (F := F) = Cert.KernelIdeal.defs (F := F) :=
  congr (congrArg (fun l d => HostLoop.defs l (Pipeline.defs (Cert.KernelIdeal.pcfgs (F := F)) d)) same_loops) same_bodies

set_option maxRecDepth 100000 in
/-- … and the host program. -/
theorem same_main : Cert.Kernel.main (F := F) = Cert.KernelIdeal.main (F := F) := rfl

/-- So the same holds of the kernel's own text. -/
theorem frame_text (m : (ℓ : Loc Cert.Kernel.nD Cert.Kernel.τ Cert.Kernel.sig) → Buf (Elt F) ℓ)
    (g : Dev Cert.Kernel.nD → PrngReg) :
    θ_run (Cert.Kernel.defs (F := F)) (onTc (τ := Cert.Kernel.τ) (Cert.Kernel.main (F := F))) ⟨m, fun _ => 0, g⟩
      (fun r => (∀ c : Dev Cert.Kernel.nD, r.2.mem ((c.tc : Thread Cert.Kernel.nD Cert.Kernel.τ).loc Cert.Kernel.main_arg0)
        = m ((c.tc : Thread Cert.Kernel.nD Cert.Kernel.τ).loc Cert.Kernel.main_arg0)) ∧ r.2.sem = fun _ => 0) := by
  have h := frame_ideal_text (F := F) m g
  rw [← same_defs, ← same_main] at h
  exact h

end AnyFloats

theorem kernel_quiescent : Cert.quiescent_Kernel (hKernel := Cert.Kernel.Gen.facts) := fun m g _ => frame_text m g

theorem ideal_quiescent : Cert.quiescent_KernelIdeal (hKernelIdeal := Cert.KernelIdeal.Gen.facts) := fun m g _ => frame_ideal_text m g

theorem ideal_quiescent_summable :
    Cert.quiescent_KernelIdeal_pre_summable (hKernelIdeal := Cert.KernelIdeal.Gen.facts) (hPre_summable := Cert.Pre_summable.Gen.facts) :=
  fun m g _ => frame_ideal_text m g

/-- The reference declares no semaphore, so its run alone gives its frame. -/
theorem reference_quiescent : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem reference_quiescent_summable :
    Cert.quiescent_ReferenceIdeal_pre_summable (hReferenceIdeal := Cert.ReferenceIdeal.Gen.facts) (hPre_summable := Cert.Pre_summable.Gen.facts) :=
  fun m g _ => reference_quiescent m g trivial

end Cert.Ipf

end
-- ==== Proof.Payloads.lean ====
/-
  What one block of each kernel computes over the extended reals, at an index: every value a body stores, as sums and
  quotients of the entries of the blocks it loads.
-/
module

public import proofs.«01_k».proof.Proof.Trips
public import Idealize.ShloMosaic.Lib.Pipeline.ValueKit
public import Idealize.ShloMosaic.Lib.Pointwise.Index

@[expose] public section

set_option maxRecDepth 16384

noncomputable section

namespace Cert.Ipf

open Cert.KernelIdeal Cert.KernelIdeal.Gen
open Idealize.ShloMosaic Idealize.ShloMosaic.TcCoe

/-! ## The first kernel -/

/-- The absolute value of an entry. -/
theorem cast_entry (x : FVec Ideal S256x8192 .f32) (r : Fin 256) (j : Fin 8192) :
    k0_pay3 (F := Ideal) x (ix2 r j) = max (x (ix2 r j)) (-x (ix2 r j)) := by
  pointwise [k0_pay3, k0_pay2]
  rfl

/-- One over the sum of a row's absolute values. -/
theorem cast_factor (x : FVec Ideal S256x8192 .f32) (r : Fin 256) :
    k0_pay4 (F := Ideal) x (ix2 r 0) = Ideal.div 1 (∑ j, max (x (ix2 r j)) (-x (ix2 r j))) := by
  pointwise [k0_pay4, k0_pay2]
  rfl

/-- The sums start at zero. -/
theorem cast_zero (j : Fin 8192) : k0_pay1 (F := Ideal) (ix2 0 j) = 0 := by
  pointwise [k0_pay1]

/-- A block adds to a column its absolute values, each times its row's factor. -/
theorem cast_sum (x : FVec Ideal S256x8192 .f32) (s : FVec Ideal S1x8192 .f32) (j : Fin 8192) :
    k0_pay5 (F := Ideal) x s (ix2 0 j)
      = s (ix2 0 j) + ∑ r, max (x (ix2 r j)) (-x (ix2 r j)) * Ideal.div 1 (∑ k, max (x (ix2 r k)) (-x (ix2 r k))) := by
  pointwise [k0_pay5, k0_pay4, k0_pay2]
  rfl

/-! ## The iteration's kernel -/

/-- One over a column's sum. -/
theorem iter_inverse (w : FVec Ideal S1x8192 .f32) (j : Fin 8192) : k1_pay1 (F := Ideal) w (ix2 0 j) = Ideal.div 1 (w (ix2 0 j)) := by
  pointwise [k1_pay1]

/-- The sums start at zero. -/
theorem iter_zero (j : Fin 8192) : k1_pay2 (F := Ideal) (ix2 0 j) = 0 := by
  pointwise [k1_pay2]

/-- One over the sum of a row scaled by the column factors. -/
theorem iter_factor (x : FVec Ideal S256x8192 .bf16) (v : FVec Ideal S1x8192 .f32) (r : Fin 256) :
    k1_pay4 (F := Ideal) x v (ix2 r 0) = Ideal.div 1 (∑ j, x (ix2 r j) * v (ix2 0 j)) := by
  pointwise [k1_pay4, k1_pay3]

/-- A block adds to a column its entries, each times its row's factor. -/
theorem iter_sum (x : FVec Ideal S256x8192 .bf16) (v s : FVec Ideal S1x8192 .f32) (j : Fin 8192) :
    k1_pay5 (F := Ideal) x v s (ix2 0 j)
      = s (ix2 0 j) + ∑ r, x (ix2 r j) * Ideal.div 1 (∑ k, x (ix2 r k) * v (ix2 0 k)) := by
  pointwise [k1_pay5, k1_pay4, k1_pay3]

/-! ## The last kernel -/

/-- One over a column's sum. -/
theorem final_inverse (w : FVec Ideal S1x8192 .f32) (j : Fin 8192) : k2_pay1 (F := Ideal) w (ix2 0 j) = Ideal.div 1 (w (ix2 0 j)) := by
  pointwise [k2_pay1]

/-- An entry times its row's factor times its column's. -/
theorem final_entry (x : FVec Ideal S256x8192 .bf16) (u : FVec Ideal S256x1 .f32) (v : FVec Ideal S1x8192 .f32) (r : Fin 256) (j : Fin 8192) :
    k2_pay2 (F := Ideal) x u v (ix2 r j) = x (ix2 r j) * u (ix2 r 0) * v (ix2 0 j) := by
  pointwise [k2_pay2]

end Cert.Ipf

end
-- ==== Proof.KernelArrays.lean ====
/-
  The kernel's arrays over the extended reals, at an index: the 32 blocks of 256 rows put together, so that a column's sum
  runs over all 8192 rows.
-/
module

public import proofs.«01_k».proof.Proof.Payloads

@[expose] public section

set_option maxRecDepth 16384

noncomputable section

namespace Cert.Ipf

open Cert.KernelIdeal Cert.KernelIdeal.Gen
open Idealize.ShloMosaic Idealize.ShloMosaic.TcCoe

/-! ## Rows and blocks -/

/-- Row `256 n + r` of the matrix. -/
abbrev rowAt (n : ℕ) (r : Fin 256) : Fin 8192 := Fin.ofNat 8192 (256 * n + r.val)

/-- Every row is a row of its block. -/
theorem rowAt_self (i : Fin 8192) : rowAt (i.val / 256) (Fin.ofNat 256 i.val) = i := by
  have hi : i.val < 8192 := i.isLt
  refine Fin.ext ?_
  show (256 * (i.val / 256) + i.val % 256) % 8192 = i.val
  omega

theorem rows_at {α : Type} (A : S8192x8192.Idx → α) (n : ℕ) (r : Fin 256) (j : Fin 8192) :
    rows A n (ix2 r j) = A (ix2 (rowAt n r) j) := rfl

theorem rowsCol_at {α : Type} (A : S8192x1.Idx → α) (n : ℕ) (r : Fin 256) :
    rowsCol A n (ix2 r 0) = A (ix2 (rowAt n r) 0) := rfl

theorem ofRows_at {α : Type} (f : ℕ → S256x8192.Idx → α) (i j : Fin 8192) :
    ofRows f (ix2 i j) = f (i.val / 256) (ix2 (Fin.ofNat 256 i.val) j) := rfl

theorem ofRowsCol_at {α : Type} (f : ℕ → S256x1.Idx → α) (i : Fin 8192) :
    ofRowsCol f (ix2 i 0) = f (i.val / 256) (ix2 (Fin.ofNat 256 i.val) 0) := rfl

/-- Block after block, what is added up is the sum over all the rows. -/
theorem sum_of_blocks (g : Fin 8192 → EReal) (s : ℕ → EReal) (h0 : s 0 = 0 + ∑ r, g (rowAt 0 r))
    (hs : ∀ n, s (n + 1) = s n + ∑ r, g (rowAt (n + 1) r)) : s 31 = ∑ i, g i := by
  have key : ∀ n, s n = ∑ k ∈ Finset.range (256 * n + 256), g (Fin.ofNat 8192 k) := by
    intro n
    induction n with
    | zero => rw [h0, zero_add, Finset.sum_range]; rfl
    | succ n ih =>
      rw [hs, ih, Finset.sum_range_add _ (256 * (n + 1)) 256]
      exact congrArg (_ + ·) (Finset.sum_range fun x => g (Fin.ofNat 8192 (256 * (n + 1) + x))).symm
  rw [key 31, Finset.sum_range]
  exact Finset.sum_congr rfl fun i _ => congrArg g (Fin.ext (Nat.mod_eq_of_lt i.isLt))

/-! ## The arrays -/

variable (W : FVec Ideal S8192x8192 .f32)

/-- The absolute value of an entry of the input. -/
def mag (i j : Fin 8192) : EReal := max (W (ix2 i j)) (-W (ix2 i j))

theorem castA_at (i j : Fin 8192) : castA (F := Ideal) W (ix2 i j) = mag W i j := by
  unfold castA
  rw [ofRows_at, cast_entry, rows_at, rowAt_self]
  rfl

theorem castU_at (i : Fin 8192) : castU (F := Ideal) W (ix2 i 0) = Ideal.div 1 (∑ j, mag W i j) := by
  unfold castU
  rw [ofRowsCol_at, cast_factor]
  simp only [rows_at, rowAt_self]
  rfl

theorem castW_at (j : Fin 8192) : castW (F := Ideal) W (ix2 0 j) = ∑ i, mag W i j * Ideal.div 1 (∑ k, mag W i k) := by
  have e : ∀ (s : FVec Ideal S1x8192 .f32) (n : ℕ), k0_pay5 (F := Ideal) (rows W n) s (ix2 0 j)
      = s (ix2 0 j) + ∑ r, mag W (rowAt n r) j * Ideal.div 1 (∑ k, mag W (rowAt n r) k) := fun s n => by
    rw [cast_sum]
    simp only [rows_at, mag]
  have h0 : castSums (F := Ideal) W 0 (ix2 0 j) = 0 + ∑ r, mag W (rowAt 0 r) j * Ideal.div 1 (∑ k, mag W (rowAt 0 r) k) := by
    rw [castSums, e, cast_zero]
  have hs : ∀ n, castSums (F := Ideal) W (n + 1) (ix2 0 j)
      = castSums (F := Ideal) W n (ix2 0 j) + ∑ r, mag W (rowAt (n + 1) r) j * Ideal.div 1 (∑ k, mag W (rowAt (n + 1) r) k) := fun n => by
    rw [castSums, e]
  unfold castW
  generalize castSums (F := Ideal) W = s at h0 hs
  exact sum_of_blocks (fun i => mag W i j * Ideal.div 1 (∑ k, mag W i k)) (fun n => s n (ix2 0 j)) h0 hs

variable (A : FVec Ideal S8192x8192 .bf16) (w : FVec Ideal S1x8192 .f32)

theorem iterU_at (i : Fin 8192) : iterU (F := Ideal) A w (ix2 i 0) = Ideal.div 1 (∑ j, A (ix2 i j) * Ideal.div 1 (w (ix2 0 j))) := by
  unfold iterU
  rw [ofRowsCol_at, iter_factor]
  simp only [rows_at, rowAt_self, iter_inverse]

theorem iterW_at (j : Fin 8192) : iterW (F := Ideal) A w (ix2 0 j)
    = ∑ i, A (ix2 i j) * Ideal.div 1 (∑ k, A (ix2 i k) * Ideal.div 1 (w (ix2 0 k))) := by
  have e : ∀ (s : FVec Ideal S1x8192 .f32) (n : ℕ), k1_pay5 (F := Ideal) (rows A n) (k1_pay1 (F := Ideal) w) s (ix2 0 j)
      = s (ix2 0 j) + ∑ r, A (ix2 (rowAt n r) j) * Ideal.div 1 (∑ k, A (ix2 (rowAt n r) k) * Ideal.div 1 (w (ix2 0 k))) := fun s n => by
    rw [iter_sum]
    simp only [rows_at, iter_inverse]
  have h0 : iterSums (F := Ideal) A (k1_pay1 (F := Ideal) w) 0 (ix2 0 j)
      = 0 + ∑ r, A (ix2 (rowAt 0 r) j) * Ideal.div 1 (∑ k, A (ix2 (rowAt 0 r) k) * Ideal.div 1 (w (ix2 0 k))) := by
    rw [iterSums, e, iter_zero]
  have hs : ∀ n, iterSums (F := Ideal) A (k1_pay1 (F := Ideal) w) (n + 1) (ix2 0 j) = iterSums (F := Ideal) A (k1_pay1 (F := Ideal) w) n (ix2 0 j)
      + ∑ r, A (ix2 (rowAt (n + 1) r) j) * Ideal.div 1 (∑ k, A (ix2 (rowAt (n + 1) r) k) * Ideal.div 1 (w (ix2 0 k))) := fun n => by
    rw [iterSums, e]
  unfold iterW
  generalize iterSums (F := Ideal) A (k1_pay1 (F := Ideal) w) = s at h0 hs
  exact sum_of_blocks (fun i => A (ix2 i j) * Ideal.div 1 (∑ k, A (ix2 i k) * Ideal.div 1 (w (ix2 0 k)))) (fun n => s n (ix2 0 j)) h0 hs

theorem finalOut_at (u : FVec Ideal S8192x1 .f32) (i j : Fin 8192) :
    finalOut (F := Ideal) A u w (ix2 i j) = A (ix2 i j) * u (ix2 i 0) * Ideal.div 1 (w (ix2 0 j)) := by
  unfold finalOut
  rw [ofRows_at, final_entry, rows_at, rowsCol_at, rowAt_self, final_inverse]

end Cert.Ipf

end
-- ==== Proof.Balance.lean ====
/-
  The equation, over the real numbers. A matrix `A` of nonnegative entries with positive row and column sums is held as
  `A i j * u i * (1 / w j)`. Dividing that matrix by its row sums and then by its column sums gives the matrix held by
  new factors: `u' i = 1 / Σ_j A i j * (1 / w j)` and `w' j = Σ_i A i j * u' i`. So only the factors need be kept.
-/
module

public import Mathlib.Data.Real.Basic
public import Mathlib.Algebra.Order.BigOperators.Ring.Finset
public import Mathlib.Tactic.FieldSimp
public import Mathlib.Tactic.Ring

@[expose] public section

set_option maxRecDepth 16384

noncomputable section

namespace Cert.Ipf

variable {n : ℕ} (A : Fin n → Fin n → ℝ)

/-- The next row factors, from the column sums `w`. -/
def nextU (w : Fin n → ℝ) (i : Fin n) : ℝ := 1 / ∑ j, A i j * (1 / w j)

/-- The next column sums, from the row factors `u`. -/
def nextW (u : Fin n → ℝ) (j : Fin n) : ℝ := ∑ i, A i j * u i

/-- The column sums after `k` rounds, from all ones. -/
def sums : ℕ → Fin n → ℝ
  | 0 => fun _ => 1
  | k + 1 => nextW A (nextU A (sums k))

/-- The row factors after `k` rounds, from all ones. -/
def weights : ℕ → Fin n → ℝ
  | 0 => fun _ => 1
  | k + 1 => nextU A (sums A k)

/-- The matrix held by the factors. -/
def scaled (u w : Fin n → ℝ) (i j : Fin n) : ℝ := A i j * u i * (1 / w j)

/-- A matrix divided by its row sums. -/
def byRows (M : Fin n → Fin n → ℝ) (i j : Fin n) : ℝ := M i j / ∑ k, M i k

/-- A matrix divided by its column sums. -/
def byCols (M : Fin n → Fin n → ℝ) (i j : Fin n) : ℝ := M i j / ∑ k, M k j

/-- The matrix after `k` rounds. -/
def balanced : ℕ → Fin n → Fin n → ℝ
  | 0 => A
  | k + 1 => byCols (byRows (balanced k))

/-- What is asked of the matrix. -/
structure Balanceable : Prop where
  nonneg : ∀ i j, 0 ≤ A i j
  row : ∀ i, 0 < ∑ j, A i j
  col : ∀ j, 0 < ∑ i, A i j

variable {A}

/-- A sum of nonnegative terms, not all zero, stays positive when each is scaled by a positive number. -/
theorem sum_scaled_pos {f g : Fin n → ℝ} (hf : ∀ i, 0 ≤ f i) (hs : 0 < ∑ i, f i) (hg : ∀ i, 0 < g i) : 0 < ∑ i, f i * g i := by
  obtain ⟨i, hi, hpos⟩ := Finset.exists_lt_of_sum_lt (s := Finset.univ) (f := fun _ : Fin n => (0 : ℝ)) (g := f) (by simpa using hs)
  exact Finset.sum_pos' (fun j _ => mul_nonneg (hf j) (hg j).le) ⟨i, hi, mul_pos hpos (hg i)⟩

theorem nextU_pos (h : Balanceable A) {w : Fin n → ℝ} (hw : ∀ j, 0 < w j) (i : Fin n) : 0 < nextU A w i :=
  one_div_pos.mpr (sum_scaled_pos (h.nonneg i) (h.row i) fun j => one_div_pos.mpr (hw j))

theorem nextW_pos (h : Balanceable A) {u : Fin n → ℝ} (hu : ∀ i, 0 < u i) (j : Fin n) : 0 < nextW A u j :=
  sum_scaled_pos (fun i => h.nonneg i j) (h.col j) hu

theorem sums_pos (h : Balanceable A) : ∀ k j, 0 < sums A k j
  | 0, _ => one_pos
  | k + 1, j => nextW_pos h (nextU_pos h (sums_pos h k)) j

theorem weights_pos (h : Balanceable A) : ∀ k i, 0 < weights A k i
  | 0, _ => one_pos
  | k + 1, i => nextU_pos h (sums_pos h k) i

/-- A row's sum in the held matrix is its old factor over its new one. -/
theorem scaled_row (u w : Fin n → ℝ) (i : Fin n) : ∑ j, scaled A u w i j = u i / nextU A w i := by
  unfold scaled nextU
  rw [div_div_eq_mul_div, div_one, Finset.mul_sum]
  exact Finset.sum_congr rfl fun j _ => by ring

/-- Divided by its row sums, the held matrix has the new row factors. -/
theorem byRows_scaled (h : Balanceable A) {u w : Fin n → ℝ} (hu : ∀ i, 0 < u i) (hw : ∀ j, 0 < w j) :
    byRows (scaled A u w) = scaled A (nextU A w) w := by
  funext i j
  unfold byRows
  rw [scaled_row]
  have := (hu i).ne'
  have := (nextU_pos h hw i).ne'
  unfold scaled
  field_simp

/-- A column's sum in the held matrix is its new sum over its old one. -/
theorem scaled_col (u w : Fin n → ℝ) (j : Fin n) : ∑ i, scaled A u w i j = nextW A u j * (1 / w j) := by
  unfold scaled nextW
  rw [Finset.sum_mul]

/-- Divided by its column sums, the held matrix has the new column sums. -/
theorem byCols_scaled (h : Balanceable A) {u w : Fin n → ℝ} (hu : ∀ i, 0 < u i) (hw : ∀ j, 0 < w j) :
    byCols (scaled A u w) = scaled A u (nextW A u) := by
  funext i j
  unfold byCols
  rw [scaled_col]
  have := (hw j).ne'
  have := (nextW_pos h hu j).ne'
  unfold scaled
  field_simp

/-- After any number of rounds the matrix is the first one, held by the factors. -/
theorem balanced_eq (h : Balanceable A) : ∀ k, balanced A k = scaled A (weights A k) (sums A k)
  | 0 => by funext i j; simp [balanced, scaled, weights, sums]
  | k + 1 => by
    show byCols (byRows (balanced A k)) = scaled A (nextU A (sums A k)) (nextW A (nextU A (sums A k)))
    rw [balanced_eq h k, byRows_scaled h (weights_pos h k) (sums_pos h k), byCols_scaled h (nextU_pos h (sums_pos h k)) (sums_pos h k)]

/-- No row of the held matrix adds up to zero. -/
theorem scaled_row_pos (h : Balanceable A) {u w : Fin n → ℝ} (hu : ∀ i, 0 < u i) (hw : ∀ j, 0 < w j) (i : Fin n) :
    0 < ∑ j, scaled A u w i j := by
  rw [scaled_row]; exact div_pos (hu i) (nextU_pos h hw i)

/-- No column of the held matrix adds up to zero. -/
theorem scaled_col_pos (h : Balanceable A) {u w : Fin n → ℝ} (hu : ∀ i, 0 < u i) (hw : ∀ j, 0 < w j) (j : Fin n) :
    0 < ∑ i, scaled A u w i j := by
  rw [scaled_col]; exact mul_pos (nextW_pos h hu j) (one_div_pos.mpr (hw j))

/-- In every round the row sums divided by are positive. -/
theorem balanced_row_pos (h : Balanceable A) (k : ℕ) (i : Fin n) : 0 < ∑ j, balanced A k i j := by
  rw [balanced_eq h k]; exact scaled_row_pos h (weights_pos h k) (sums_pos h k) i

/-- In every round the column sums divided by are positive. -/
theorem byRows_col_pos (h : Balanceable A) (k : ℕ) (j : Fin n) : 0 < ∑ i, byRows (balanced A k) i j := by
  rw [balanced_eq h k, byRows_scaled h (weights_pos h k) (sums_pos h k)]
  exact scaled_col_pos h (nextU_pos h (sums_pos h k)) (sums_pos h k) j

end Cert.Ipf

end
-- ==== Proof.Condition.lean ====
/-
  What the claim asks of the input: every row and every column of its absolute values adds up to a positive real number.
  Then every entry's absolute value is a real number, and these form a matrix that can be balanced.
-/
module

public import proofs.«01_k».proof.Pre_summable
public import proofs.«01_k».proof.Proof.Gen.Pre_summable
public import proofs.«01_k».proof.Proof.KernelArrays
public import proofs.«01_k».proof.Proof.Balance

@[expose] public section

set_option maxRecDepth 16384

noncomputable section

namespace Cert.Ipf

open Idealize.ShloMosaic Idealize.ShloMosaic.TcCoe

/-! ## Real numbers among the extended reals -/

/-- A sum of real numbers is a real number. -/
theorem sum_real {n : ℕ} (f : Fin n → ℝ) : ∑ i, (f i : EReal) = ((∑ i, f i : ℝ) : EReal) := by
  classical
  induction (Finset.univ : Finset (Fin n)) using Finset.induction_on with
  | empty => simp
  | insert a s ha ih => rw [Finset.sum_insert ha, Finset.sum_insert ha, ih, EReal.coe_add]

/-- So is a quotient by a positive real number. -/
theorem div_real (x : ℝ) {y : ℝ} (hy : 0 < y) : Ideal.div (x : EReal) (y : EReal) = ((x / y : ℝ) : EReal) := by
  rw [Ideal.div_coe hy.ne', ← EReal.coe_mul, mul_one_div]

/-- One over a positive real number. -/
theorem inv_real {y : ℝ} (hy : 0 < y) : Ideal.div 1 (y : EReal) = ((1 / y : ℝ) : EReal) := div_real 1 hy

/-- If terms of at least zero add up to less than infinity, each of them is less. -/
theorem term_lt_top {n : ℕ} {f : Fin n → EReal} (h0 : ∀ i, 0 ≤ f i) (h : ∑ i, f i < ⊤) (i : Fin n) : f i < ⊤ :=
  (Finset.single_le_sum (fun j _ => h0 j) (Finset.mem_univ i)).trans_lt h

/-! ## The condition, opened -/

variable (W : FVec Ideal Cert.KernelIdeal.S8192x8192 .f32)

/-- An absolute value is at least zero. -/
theorem mag_nonneg (i j : Fin 8192) : 0 ≤ mag W i j := by
  unfold mag
  rcases le_total 0 (W (ix2 i j)) with h | h
  · exact h.trans (le_max_left _ _)
  · exact (EReal.neg_nonneg.mpr h).trans (le_max_right _ _)

/-- The absolute values of every row and of every column add up to a positive real number. -/
structure Summable : Prop where
  row : ∀ i, 0 < ∑ j, mag W i j ∧ ∑ j, mag W i j < ⊤
  col : ∀ j, 0 < ∑ i, mag W i j ∧ ∑ i, mag W i j < ⊤

/-- The pattern of infinity. -/
theorem infinity_pattern : Ideal.ofBits .f32 0x7F800000#32 = ⊤ := by
  show Ideal.ieee 8 23 (0x7F800000#32 : BitVec 32) = ⊤
  unfold Ideal.ieee
  rw [if_pos (by decide), if_pos (by decide), if_neg (by decide)]

/-- Two truth values joined by "and". -/
theorem both_true {p q : BitVec 1} (h : IntOp.andi p q = 1#1) : p = 1#1 ∧ q = 1#1 := by
  revert p q; decide

/-- A decided statement that reads true. -/
theorem decided_true {p : Prop} [Decidable p] (h : BitVec.ofBool (decide p) = 1#1) : p := by
  by_contra hp
  rw [decide_eq_false hp] at h
  exact absurd h (by decide)

/-- The claim's condition says just this. -/
theorem summable_of_pre (h : Cert.Pre_summable.fn (F := Ideal) W = fun _ => 1#1) : Summable W := by
  have key : ∀ i : Fin 8192, (0 < ∑ j, mag W i j ∧ ∑ j, mag W i j < ⊤) ∧ (0 < ∑ j, mag W j i ∧ ∑ j, mag W j i < ⊤) := fun i => by
    have e := congrFun h (ix1 i)
    pointwise [Cert.Pre_summable.fn] at e
    rw [show Ideal.ofBits .f32 2139095040#32 = ⊤ from infinity_pattern] at e
    obtain ⟨e, h4⟩ := both_true e
    obtain ⟨e, h3⟩ := both_true e
    obtain ⟨h1, h2⟩ := both_true e
    exact ⟨⟨decided_true h1, decided_true h2⟩, decided_true h3, decided_true h4⟩
  exact ⟨fun i => (key i).1, fun j => (key j).2⟩

/-! ## The real matrix -/

/-- The absolute values, as real numbers. -/
def realMag (i j : Fin 8192) : ℝ := (mag W i j).toReal

variable {W}

theorem mag_real (h : Summable W) (i j : Fin 8192) : mag W i j = (realMag W i j : EReal) :=
  (EReal.coe_toReal (term_lt_top (mag_nonneg W i) (h.row i).2 j).ne
    ((EReal.bot_lt_zero.trans_le (mag_nonneg W i j)).ne')).symm

/-- They can be balanced. -/
theorem balanceable (h : Summable W) : Balanceable (realMag W) where
  nonneg i j := EReal.toReal_nonneg (mag_nonneg W i j)
  row i := by
    have := (h.row i).1
    simp only [mag_real h] at this
    rw [sum_real] at this
    exact_mod_cast this
  col j := by
    have := (h.col j).1
    simp only [mag_real h] at this
    rw [sum_real] at this
    exact_mod_cast this

end Cert.Ipf

end
-- ==== Proof.KernelValue.lean ====
/-
  The kernel's result over the extended reals: after its first kernel and nine iterations it holds the row factors and the
  column sums of ten rounds, so its result is the matrix those factors hold.
-/
module

public import proofs.«01_k».proof.Proof.Condition

@[expose] public section

set_option maxRecDepth 16384

noncomputable section

namespace Cert.Ipf

open Cert.KernelIdeal
open Idealize.ShloMosaic Idealize.ShloMosaic.TcCoe

variable {W : FVec Ideal S8192x8192 .f32} (h : Summable W)

include h

/-- What the first kernel leaves: the factors of one round. -/
theorem cast_round : (∀ i, castU (F := Ideal) W (ix2 i 0) = (weights (realMag W) 1 i : EReal))
    ∧ ∀ j, castW (F := Ideal) W (ix2 0 j) = (sums (realMag W) 1 j : EReal) := by
  have e : ∀ i, Ideal.div 1 (∑ k, mag W i k) = (nextU (realMag W) (sums (realMag W) 0) i : EReal) := fun i => by
    simp only [mag_real h]
    rw [sum_real, inv_real ((balanceable h).row i)]
    simp [nextU, sums]
  refine ⟨fun i => (castU_at W i).trans (e i), fun j => (castW_at W j).trans ?_⟩
  simp only [e]
  simp only [mag_real h, ← EReal.coe_mul]
  rw [sum_real]
  rfl

/-- What an iteration leaves, given the column sums of `k` rounds: the factors of the next. -/
theorem iter_round {w : FVec Ideal S1x8192 .f32} {k : ℕ} (hw : ∀ j, w (ix2 0 j) = (sums (realMag W) k j : EReal)) :
    (∀ i, iterU (F := Ideal) (castA (F := Ideal) W) w (ix2 i 0) = (weights (realMag W) (k + 1) i : EReal))
    ∧ ∀ j, iterW (F := Ideal) (castA (F := Ideal) W) w (ix2 0 j) = (sums (realMag W) (k + 1) j : EReal) := by
  have hp := sums_pos (balanceable h) k
  have e : ∀ i, Ideal.div 1 (∑ j, castA (F := Ideal) W (ix2 i j) * Ideal.div 1 (w (ix2 0 j)))
      = (nextU (realMag W) (sums (realMag W) k) i : EReal) := fun i => by
    simp only [castA_at, mag_real h, hw, inv_real (hp _), ← EReal.coe_mul]
    rw [sum_real, inv_real (sum_scaled_pos ((balanceable h).nonneg i) ((balanceable h).row i) fun j => one_div_pos.mpr (hp j))]
    rfl
  refine ⟨fun i => (iterU_at _ _ i).trans (e i), fun j => (iterW_at _ _ j).trans ?_⟩
  simp only [e]
  simp only [castA_at, mag_real h, ← EReal.coe_mul]
  rw [sum_real]
  rfl

/-- After `k` iterations the kernel holds the factors of `k + 1` rounds. -/
theorem factors_real : ∀ k, (∀ i, (factors (F := Ideal) W k).1 (ix2 i 0) = (weights (realMag W) (k + 1) i : EReal))
    ∧ ∀ j, (factors (F := Ideal) W k).2 (ix2 0 j) = (sums (realMag W) (k + 1) j : EReal)
  | 0 => cast_round h
  | k + 1 => iter_round h (factors_real k).2

/-- The kernel's result is the balanced matrix. -/
theorem result_real (i j : Fin 8192) : result (F := Ideal) W (ix2 i j) = (balanced (realMag W) 10 i j : EReal) := by
  unfold result
  rw [finalOut_at, castA_at, mag_real h, (factors_real h 9).1, (factors_real h 9).2, inv_real (sums_pos (balanceable h) 10 j),
    balanced_eq (balanceable h) 10, ← EReal.coe_mul, ← EReal.coe_mul]
  rfl

end Cert.Ipf

end
-- ==== Proof.ReferenceValue.lean ====
/-
  The reference's result over the extended reals: each trip divides the matrix by its row sums and then by its column
  sums, so after ten it is the balanced matrix.
-/
module

public import proofs.«01_k».proof.Proof.Condition
public import proofs.«01_k».proof.Proof.Gen.ReferenceIdeal
public import proofs.«01_k».proof.Proof.Gen.ReferenceIdeal.Run

@[expose] public section

set_option maxRecDepth 16384

noncomputable section

namespace Cert.Ipf

open Cert.ReferenceIdeal Cert.ReferenceIdeal.Gen Cert.ReferenceIdeal.Value
open Idealize.ShloMosaic Idealize.ShloMosaic.TcCoe Idealize.ShloMosaic.StableHlo

/-- A matrix divided by its row sums, as the reference writes it. -/
def hostByRows (M : FVec Ideal S8192x8192 .f32) : FVec Ideal S8192x8192 .f32 :=
  Host.divf M (broadcastInDim S8192x8192 ![0, 1] bcast_S8192x1_S8192x8192_0_1 (broadcastInDim S8192x1 ![0] bcast_S8192_S8192x1_0
    (Host.reduceAdd M (constant S_ .f32 0x00000000#32) reducesTo_S8192x8192_S8192_d1 h_S_)))

/-- A matrix divided by its column sums, as the reference writes it. -/
def hostByCols (M : FVec Ideal S8192x8192 .f32) : FVec Ideal S8192x8192 .f32 :=
  Host.divf M (broadcastInDim S8192x8192 ![0, 1] bcast_S1x8192_S8192x8192_0_1 (broadcastInDim S1x8192 ![1] bcast_S8192_S1x8192_1
    (Host.reduceAdd M (constant S_ .f32 0x00000000#32) reducesTo_S8192x8192_S8192_d0 h_S_)))

/-- One trip of the reference's loop. -/
theorem step_eq (V : Valuation τ sig (Elt Ideal)) : step_main_v1_1 V = hostByCols (hostByRows (V (Proc.devRef .tc main_v1_1))) := rfl

theorem hostByRows_at (M : FVec Ideal S8192x8192 .f32) (i j : Fin 8192) :
    hostByRows M (ix2 i j) = Ideal.div (M (ix2 i j)) (∑ k, M (ix2 i k)) := by
  pointwise [hostByRows]

theorem hostByCols_at (M : FVec Ideal S8192x8192 .f32) (i j : Fin 8192) :
    hostByCols M (ix2 i j) = Ideal.div (M (ix2 i j)) (∑ k, M (ix2 k j)) := by
  pointwise [hostByCols]

/-- Over a real matrix whose row sums are positive. -/
theorem hostByRows_real {M : FVec Ideal S8192x8192 .f32} {a : Fin 8192 → Fin 8192 → ℝ} (hM : ∀ i j, M (ix2 i j) = (a i j : EReal))
    (hp : ∀ i, 0 < ∑ j, a i j) (i j : Fin 8192) : hostByRows M (ix2 i j) = (byRows a i j : EReal) := by
  rw [hostByRows_at]
  simp only [hM]
  rw [sum_real, div_real _ (hp i)]
  rfl

/-- Over a real matrix whose column sums are positive. -/
theorem hostByCols_real {M : FVec Ideal S8192x8192 .f32} {a : Fin 8192 → Fin 8192 → ℝ} (hM : ∀ i j, M (ix2 i j) = (a i j : EReal))
    (hp : ∀ j, 0 < ∑ i, a i j) (i j : Fin 8192) : hostByCols M (ix2 i j) = (byCols a i j : EReal) := by
  rw [hostByCols_at]
  simp only [hM]
  rw [sum_real, div_real _ (hp j)]
  rfl

variable (m : (ℓ : Loc nD τ sig) → Buf (Elt Ideal) ℓ)

/-- The matrix the loop starts from: the absolute values. -/
theorem entry_matrix (c : Dev nD) :
    entryContents preI m c (Proc.devRef .tc main_v1_1) = Host.absf (F := Ideal) (φ := .f32) (m ((c.tc : Thread nD τ).loc main_arg0)) := by
  simp only [entryContents, afterL_cons, afterL_nil]
  after_reads_simp
  rfl

theorem entry_at (c : Dev nD) (W : FVec Ideal S8192x8192 .f32) (hW : m ((c.tc : Thread nD τ).loc main_arg0) = W) (i j : Fin 8192) :
    (show FVec Ideal S8192x8192 .f32 from entryContents preI m c (Proc.devRef .tc main_v1_1)) (ix2 i j) = mag W i j := by
  rw [entry_matrix, hW]
  rfl

/-- After `k` trips the reference holds the matrix of `k` rounds. -/
theorem reference_real (c : Dev nD) {W : FVec Ideal S8192x8192 .f32} (hW : m ((c.tc : Thread nD τ).loc main_arg0) = W) (h : Summable W) :
    ∀ (k : ℕ) (i j : Fin 8192), (show FVec Ideal S8192x8192 .f32 from (STEP^[k] (entryContents preI m c)) (Proc.devRef .tc main_v1_1)) (ix2 i j)
      = (balanced (realMag W) k i j : EReal)
  | 0, i, j => (entry_at m c W hW i j).trans (mag_real h i j)
  | k + 1, i, j => by
    rw [Function.iterate_succ_apply', STEP_main_v1_1, step_eq]
    exact hostByCols_real (hostByRows_real (reference_real c hW h k) (balanced_row_pos (balanceable h) k)) (byRows_col_pos (balanceable h) k) i j

end Cert.Ipf

end
-- ==== Proof.Equation.lean ====
/-
  The equation: over the extended reals the kernel and the reference end with the same matrix, wherever every row and
  every column of the input's absolute values adds up to a positive real number.
-/
module

public import proofs.«01_k».proof.Defs
public import proofs.«01_k».proof.Proof.Run
public import proofs.«01_k».proof.Proof.KernelValue
public import proofs.«01_k».proof.Proof.ReferenceValue

@[expose] public section

set_option maxRecDepth 16384

noncomputable section

namespace Cert.Ipf

open Idealize.ShloMosaic Idealize.ShloMosaic.TcCoe Idealize.SL.Sem

/-- The two results are equal: both are the balanced matrix. -/
theorem results_equal (m' : (ℓ : Loc Cert.ReferenceIdeal.nD Cert.ReferenceIdeal.τ Cert.ReferenceIdeal.sig) → Buf (Elt Ideal) ℓ)
    (c : Dev Cert.ReferenceIdeal.nD) {W : FVec Ideal Cert.KernelIdeal.S8192x8192 .f32}
    (hW : m' ((c.tc : Thread Cert.ReferenceIdeal.nD Cert.ReferenceIdeal.τ).loc Cert.ReferenceIdeal.main_arg0) = W) (h : Summable W) :
    (show FVec Ideal Cert.KernelIdeal.S8192x8192 .f32 from
      (Cert.ReferenceIdeal.Value.STEP^[10] (StableHlo.entryContents Cert.ReferenceIdeal.Value.preI m' c)) (Proc.devRef .tc Cert.ReferenceIdeal.main_v1_1))
      = result (F := Ideal) W := by
  funext x
  rw [eq_ix2 x]
  exact (reference_real m' c hW h 10 (x 0) (x 1)).trans (result_real h (x 0) (x 1)).symm

/-- The claim: both programs run, and end with equal results. -/
theorem equation : Cert.algebraic_KernelIdeal_ReferenceIdeal_pre_summable (hKernelIdeal := Cert.KernelIdeal.Gen.facts)
    (hReferenceIdeal := Cert.ReferenceIdeal.Gen.facts) (hPre_summable := Cert.Pre_summable.Gen.facts) := by
  intro m g m' g' hpre hargs
  refine ⟨fun c => result (F := Ideal) (m ((c.tc : Thread Cert.KernelIdeal.nD Cert.KernelIdeal.τ).loc Cert.KernelIdeal.main_arg0)), ?_, ?_⟩
  · exact (θ_run Cert.KernelIdeal.defs _ _).mono (fun _ h => h.1) (run m g)
  · exact (θ_run Cert.ReferenceIdeal.defs _ _).mono
      (fun _ h c => ⟨(h c).1.trans (results_equal m' c (hargs c) (summable_of_pre _ (hpre c))), (h c).2⟩)
      (Cert.ReferenceIdeal.Value.run (F := Ideal) m' g')

end Cert.Ipf

end
-- ==== Proof.lean ====
/-
  The certificate: the three programs' frames, the kernel's text kept as it is, and the equation between the kernel and
  the reference.
-/
module

public import proofs.«01_k».proof.Defs
public import proofs.«01_k».proof.Proof.Frames
public import proofs.«01_k».proof.Proof.Equation

@[expose] public section

noncomputable section

namespace Cert.Proof

open Cert.Ipf

/-- Everything claimed. -/
theorem claim : Cert.Claim :=
  ⟨Cert.Kernel.Gen.facts, Cert.KernelIdeal.Gen.facts, Cert.ReferenceIdeal.Gen.facts, Cert.Pre_summable.Gen.facts,
    kernel_quiescent, ideal_quiescent, ideal_quiescent_summable, reference_quiescent, reference_quiescent_summable, trivial, equation⟩

end Cert.Proof

end
